-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S2176x4096 : Shape := ⟨2, ![2176, 4096]⟩
abbrev S15 : Shape := ⟨1, ![15]⟩
abbrev S128x4096 : Shape := ⟨2, ![128, 4096]⟩
abbrev S256x512 : Shape := ⟨2, ![256, 512]⟩
abbrev S_ : Shape := ⟨0, ![]⟩
abbrev S128x512 : Shape := ⟨2, ![128, 512]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .fp8e4m3⟩
  | .hbm, ⟨1, _⟩ => ⟨S4096x512, .fp8e4m3⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e4m3⟩
  | .local _ .vmem, ⟨1, _⟩ => ⟨S4096x512, .fp8e4m3⟩
  | .local _ .vmem, ⟨2, _⟩ => ⟨S4096x512, .f32⟩
  | .local _ .vmem, ⟨3, _⟩ => ⟨S2176x4096, .fp8e4m3⟩
  | .local _ .vmem, ⟨4, _⟩ => ⟨S2176x4096, .fp8e4m3⟩
  | .local _ .vmem, ⟨5, _⟩ => ⟨S4096x512, .fp8e4m3⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v38 : BitVec 32 := Scalar.muli v2 c256_i32
  let v39 : Index := Scalar.indexCast v38
  let c0_21 : Index := 0#32
  ![v39.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_23 : BitVec 32 := 1#32
  let v42 : BitVec 32 := Scalar.muli v5 c1_i32_23
  let v43 : BitVec 32 := Scalar.addi c0_i32 v42
  v43.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_25 : BitVec 32 := 1#32
  let v44 : BitVec 32 := Scalar.muli v7 c1_i32_25
  let v45 : BitVec 32 := Scalar.addi c0_i32_26 v44
  v45.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v46 : BitVec 32 := Scalar.muli v7 c1_i32_29
  let v47 : BitVec 32 := Scalar.addi c0_i32_30 v46
  v47.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_37 : BitVec 32 := 1#32
  let v54 : BitVec 32 := Scalar.muli v5 c1_i32_37
  let v55 : BitVec 32 := Scalar.addi c0_i32_38 v54
  v55.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_45 : BitVec 32 := 1#32
  let v62 : BitVec 32 := Scalar.muli v7 c1_i32_45
  let v63 : BitVec 32 := Scalar.addi c0_i32_46 v62
  v63.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_51 : BitVec 32 := 1#32
  let v70 : BitVec 32 := Scalar.muli v5 c1_i32_51
  let v71 : BitVec 32 := Scalar.addi c0_i32_52 v70
  v71.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_68 : BitVec 32 := 1#32
  let v86 : BitVec 32 := Scalar.muli v7 c1_i32_68
  let v87 : BitVec 32 := Scalar.addi c0_i32_69 v86
  v87.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_83 : BitVec 32 := 1#32
  let v100 : BitVec 32 := Scalar.muli v5 c1_i32_83
  let v101 : BitVec 32 := Scalar.addi c0_i32_84 v100
  v101.toNat
def k0_off2 (d0 : Dev nD) (c1_i32_90 : BitVec 32) (c0_i32_95 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_89 : BitVec 32 := 16#32
  let v108 : BitVec 32 := Scalar.addi v2 c16_i32_89
  let v109 : BitVec 32 := Scalar.subi v108 c1_i32_90
  let c16_i32_91 : BitVec 32 := 16#32
  let v110 : BitVec 32 := Scalar.remsi v109 c16_i32_91
  let c256_i32_94 : BitVec 32 := 256#32
  let v113 : BitVec 32 := Scalar.muli v110 c256_i32_94
  let v114 : BitVec 32 := Scalar.addi v113 c0_i32_95
  let v122 : Index := Scalar.indexCast v114
  let c0_102 : Index := 0#32
  ![v122.toNat, 0]
def k0_off3 (d0 : Dev nD) (c1_i32_92 : BitVec 32) (c128_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v111 : BitVec 32 := Scalar.addi v2 c1_i32_92
  let c16_i32_93 : BitVec 32 := 16#32
  let v112 : BitVec 32 := Scalar.remsi v111 c16_i32_93
  let c256_i32_96 : BitVec 32 := 256#32
  let v115 : BitVec 32 := Scalar.muli v112 c256_i32_96
  let v116 : BitVec 32 := Scalar.addi v115 c128_i32_97
  let v129 : Index := Scalar.indexCast v116
  let c0_108 : Index := 0#32
  ![v129.toNat, 0]
def k0_off3_at (r : Fin 15) : BitVec 32 × BitVec 32 :=
  if r.val < 7 then
    if r.val < 3 then
      if r.val < 1 then
        (1#32, 128#32)
      else
        if r.val < 2 then
          (1#32, 0#32)
        else
          (2#32, 128#32)
    else
      if r.val < 5 then
        if r.val < 4 then
          (2#32, 0#32)
        else
          (3#32, 128#32)
      else
        if r.val < 6 then
          (3#32, 0#32)
        else
          (4#32, 128#32)
  else
    if r.val < 11 then
      if r.val < 9 then
        if r.val < 8 then
          (4#32, 0#32)
        else
          (5#32, 128#32)
      else
        if r.val < 10 then
          (5#32, 0#32)
        else
          (6#32, 128#32)
    else
      if r.val < 13 then
        if r.val < 12 then
          (6#32, 0#32)
        else
          (7#32, 128#32)
      else
        if r.val < 14 then
          (7#32, 0#32)
        else
          (8#32, 128#32)
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_118 : BitVec 32 := 1#32
  let v137 : BitVec 32 := Scalar.muli v7 c1_i32_118
  let v138 : BitVec 32 := Scalar.addi c0_i32_119 v137
  v138.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_133 : BitVec 32 := 1#32
  let v151 : BitVec 32 := Scalar.muli v5 c1_i32_133
  let v152 : BitVec 32 := Scalar.addi c0_i32_134 v151
  v152.toNat
def k0_dev11 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_168 : BitVec 32 := 1#32
  let v188 : BitVec 32 := Scalar.muli v7 c1_i32_168
  let v189 : BitVec 32 := Scalar.addi c0_i32_169 v188
  v189.toNat
def k0_dev12 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_183 : BitVec 32 := 1#32
  let v202 : BitVec 32 := Scalar.muli v5 c1_i32_183
  let v203 : BitVec 32 := Scalar.addi c0_i32_184 v202
  v203.toNat
def k0_dev13 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_218 : BitVec 32 := 1#32
  let v239 : BitVec 32 := Scalar.muli v7 c1_i32_218
  let v240 : BitVec 32 := Scalar.addi c0_i32_219 v239
  v240.toNat
def k0_dev14 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_233 : BitVec 32 := 1#32
  let v253 : BitVec 32 := Scalar.muli v5 c1_i32_233
  let v254 : BitVec 32 := Scalar.addi c0_i32_234 v253
  v254.toNat
def k0_dev15 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_268 : BitVec 32 := 1#32
  let v290 : BitVec 32 := Scalar.muli v7 c1_i32_268
  let v291 : BitVec 32 := Scalar.addi c0_i32_269 v290
  v291.toNat
def k0_dev16 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_283 : BitVec 32 := 1#32
  let v304 : BitVec 32 := Scalar.muli v5 c1_i32_283
  let v305 : BitVec 32 := Scalar.addi c0_i32_284 v304
  v305.toNat
def k0_dev17 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_318 : BitVec 32 := 1#32
  let v341 : BitVec 32 := Scalar.muli v7 c1_i32_318
  let v342 : BitVec 32 := Scalar.addi c0_i32_319 v341
  v342.toNat
def k0_dev18 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_333 : BitVec 32 := 1#32
  let v355 : BitVec 32 := Scalar.muli v5 c1_i32_333
  let v356 : BitVec 32 := Scalar.addi c0_i32_334 v355
  v356.toNat
def k0_dev19 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_369 : BitVec 32 := 1#32
  let v392 : BitVec 32 := Scalar.muli v7 c1_i32_369
  let v393 : BitVec 32 := Scalar.addi c0_i32_370 v392
  v393.toNat
def k0_dev20 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_384 : BitVec 32 := 1#32
  let v406 : BitVec 32 := Scalar.muli v5 c1_i32_384
  let v407 : BitVec 32 := Scalar.addi c0_i32_385 v406
  v407.toNat
def k0_dev21 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_419 : BitVec 32 := 1#32
  let v443 : BitVec 32 := Scalar.muli v7 c1_i32_419
  let v444 : BitVec 32 := Scalar.addi c0_i32_420 v443
  v444.toNat
def k0_dev22 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_434 : BitVec 32 := 1#32
  let v457 : BitVec 32 := Scalar.muli v5 c1_i32_434
  let v458 : BitVec 32 := Scalar.addi c0_i32_435 v457
  v458.toNat
def k0_dev23 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_469 : BitVec 32 := 1#32
  let v494 : BitVec 32 := Scalar.muli v7 c1_i32_469
  let v495 : BitVec 32 := Scalar.addi c0_i32_470 v494
  v495.toNat
def k0_dev24 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_484 : BitVec 32 := 1#32
  let v508 : BitVec 32 := Scalar.muli v5 c1_i32_484
  let v509 : BitVec 32 := Scalar.addi c0_i32_485 v508
  v509.toNat
def k0_dev25 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_519 : BitVec 32 := 1#32
  let v545 : BitVec 32 := Scalar.muli v7 c1_i32_519
  let v546 : BitVec 32 := Scalar.addi c0_i32_520 v545
  v546.toNat
def k0_dev26 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_534 : BitVec 32 := 1#32
  let v559 : BitVec 32 := Scalar.muli v5 c1_i32_534
  let v560 : BitVec 32 := Scalar.addi c0_i32_535 v559
  v560.toNat
def k0_dev27 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_569 : BitVec 32 := 1#32
  let v596 : BitVec 32 := Scalar.muli v7 c1_i32_569
  let v597 : BitVec 32 := Scalar.addi c0_i32_570 v596
  v597.toNat
def k0_dev28 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_584 : BitVec 32 := 1#32
  let v610 : BitVec 32 := Scalar.muli v5 c1_i32_584
  let v611 : BitVec 32 := Scalar.addi c0_i32_585 v610
  v611.toNat
def k0_dev29 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_619 : BitVec 32 := 1#32
  let v647 : BitVec 32 := Scalar.muli v7 c1_i32_619
  let v648 : BitVec 32 := Scalar.addi c0_i32_620 v647
  v648.toNat
def k0_dev30 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_634 : BitVec 32 := 1#32
  let v661 : BitVec 32 := Scalar.muli v5 c1_i32_634
  let v662 : BitVec 32 := Scalar.addi c0_i32_635 v661
  v662.toNat
def k0_dev31 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_669 : BitVec 32 := 1#32
  let v698 : BitVec 32 := Scalar.muli v7 c1_i32_669
  let v699 : BitVec 32 := Scalar.addi c0_i32_670 v698
  v699.toNat
def k0_dev32 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_684 : BitVec 32 := 1#32
  let v712 : BitVec 32 := Scalar.muli v5 c1_i32_684
  let v713 : BitVec 32 := Scalar.addi c0_i32_685 v712
  v713.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v78 : BitVec 32 := Scalar.addi v2 c8_i32
  let c16_i32_57 : BitVec 32 := 16#32
  let v79 : BitVec 32 := Scalar.remsi v78 c16_i32_57
  let c256_i32_758 : BitVec 32 := 256#32
  let v789 : BitVec 32 := Scalar.muli v79 c256_i32_758
  let v790 : Index := Scalar.indexCast v789
  let c0_759 : Index := 0#32
  ![v790.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.Plan.lean ====
/-
The kernel's body as a short program over two parameters, a direction (`true` travels to the next device, `false` to the
previous one) and a copy number: what the printed body unrolls copy by copy is here one line per kind of step.
-/
module

public import proofs.«01_k».proof.Proof.Gen.KernelIdeal
public import proofs.«01_k».proof.Proof.Gen.KernelIdeal.Skeleton

@[expose] public section

noncomputable section

namespace Cert.Ring

open Cert.KernelIdeal Cert.KernelIdeal.Gen
open Idealize.ShloMosaic Idealize.SL.Sem

variable {F : FTy → Type} [FloatOps F]

/-! ## Slots and semaphores -/

/-- Slot `k` of a 17-slot chunk buffer lies inside it. -/
theorem row_inb (k : Fin 17) : ∀ a, (![128 * k.val, 0] : Fin 2 → Nat) a + S128x4096.size a ≤ S2176x4096.size a := by
  revert k; decide

/-- The rows of slot `k` in a chunk buffer. -/
abbrev slotRect (k : Fin 17) : Rect S2176x4096 := Rect.unit (s := S2176x4096) ![128 * k.val, 0] S128x4096.size (row_inb k)

/-- A slot is made of whole words, -/
theorem slot_words (k : Fin 17) : (slotRect k).WholeWords (EltTy.packing .fp8e4m3) := by revert k; decide
/-- and of whole packed rows. -/
theorem slot_packed (k : Fin 17) : (slotRect k).PackedRows (EltTy.packing .fp8e4m3) := by revert k; decide

/-- The chunk buffer of a direction. -/
def scr : Bool → Memref sig .tc .vmem S2176x4096 .fp8e4m3
  | true => Memref.whole cc0_scratch0
  | false => Memref.whole cc0_scratch1

/-- A chunk buffer is a whole buffer. -/
theorem scr_whole : ∀ d, (scr d).IsWhole
  | true => Memref.isWhole_whole _
  | false => Memref.isWhole_whole _

/-- Slot `k` of the chunk buffer of direction `d`. -/
abbrev slot (d : Bool) (k : Fin 17) : Memref sig .tc .vmem S128x4096 .fp8e4m3 := (scr d).slice (slotRect k) (fun _ => rfl)

/-- The slot copy `s` reads, -/
abbrev sIx (s : Fin 15) : Fin 17 := ⟨s.val, by omega⟩
/-- and the slot it lands in on the next device along its direction. -/
abbrev lIx (s : Fin 15) : Fin 17 := ⟨s.val + 2, by omega⟩

/-- A copy moves whole words. -/
theorem slot_wordExact (d : Bool) (k : Fin 17) : (slot d k).view.WordExact := (scr_whole d).wordExact_slice rfl _ (slot_words k)

/-- The DMA semaphore of copy `s` along direction `d`: its send (`r = false`) or its receive (`r = true`) semaphore. -/
def dsem (d r : Bool) (s : Fin 15) : DmaSem sig :=
  ⟨5 + (cond d 0 30 + cond r 15 0 + s.val), by cases d <;> cases r <;> simp only [cond] <;> omega⟩

/-- The runtime's barrier semaphore. -/
abbrev barS : Sem sig := (SemArray.scalar (sig.barrier 0 rfl) : Sems sig S_).sem

/-! ## The steps -/

/-- A TensorCore program of this kernel. -/
abbrev KProg (F : FTy → Type) [FloatOps F] (α : Type) : Type 1 := Prog (TpuEff nD τ sig (Elt F) Λ₀ .tc) α

/-- Start copy `s` along `d` to device `n`: slot `s` here into slot `s + 2` there. -/
def send (d : Bool) (n : Dev nD) (s : Fin 15) : KProg F PUnit :=
  Prog.lift (.enqueueDma (slot d (sIx s)) (.remote (Dev.tc n) (slot d (lIx s)) (.dma (dsem d false s))) (.dma (dsem d true s))
    (slot_wordExact d _) (slot_wordExact d _) ⟨⟨by cases d <;> rfl, Or.inl rfl⟩, trivial⟩)

/-- Wait until copy `s` along `d` has landed here. -/
def recv (d : Bool) (s : Fin 15) : KProg F PUnit :=
  Prog.lift (.waitDma2 (dsem d true s) (slot d (sIx s)) (slot d (lIx s)) (slot_wordExact d _) (slot_wordExact d _))

/-- Wait until the own copy `s` along `d` has left. -/
def sent (d : Bool) (s : Fin 15) : KProg F PUnit :=
  Prog.lift (.waitDma2 (dsem d false s) (slot d (lIx s)) (slot d (sIx s)) (slot_wordExact d _) (slot_wordExact d _))

/-- Fill slot `k` of direction `d` with `v` (the slot is first loaded, and what is loaded not used). -/
def fill (d : Bool) (k : Fin 17) (v : Vec F S128x4096 .fp8e4m3) : KProg F PUnit := do
  let _ ← Prog.lift (.load (scr d) (slotRect k).toLoadRect (View.loadsAt_vmem h_S128x4096))
  Prog.lift (.store (scr d) (slotRect k) v Finset.univ (View.stores_vmem h_S128x4096 ((scr_whole d).storeExact_slice rfl _ (slot_packed k)) (fun _ => rfl)) (.inl rfl))

abbrev xM : Memref sig .tc .vmem S256x4096 .fp8e4m3 := Memref.whole cc0_stg0_0
abbrev wM : Memref sig .tc .vmem S4096x512 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x512 .f32 := Memref.whole cc0_stg4_0
abbrev w8M : Memref sig .tc .vmem S4096x512 .fp8e4m3 := Memref.whole cc0_scratch2

/-- Load the core's copy of the weights. -/
def ldW : KProg F (Vec F S4096x512 .fp8e4m3) :=
  Prog.lift (.load w8M (Rect.unit (s := S4096x512) ![0, 0] S4096x512.size inb_S4096x512_S4096x512_0_0).toLoadRect (View.loadsAt_vmem h_S4096x512))

/-- Multiply the chunk in slot `k` of direction `d` by the weights and store the product at the rows from `off`. -/
def dot (v10 : F .f32) (d : Bool) (k : Fin 17) (off : Fin 2 → ℕ) (h : ∀ a, off a + S128x512.size a ≤ S4096x512.size a) : KProg F PUnit := do
  let x ← Prog.lift (.load (scr d) (slotRect k).toLoadRect (View.loadsAt_vmem h_S128x4096))
  let w ← ldW
  let _ ← Prog.lift (.load oM (Rect.unit (s := S4096x512) off S128x512.size h).toLoadRect (View.loadsAt_vmem h_S128x512))
  Prog.lift (.store oM (Rect.unit (s := S4096x512) off S128x512.size h) (k0_pay10 v10 x w) Finset.univ (View.stores_vmem_bits_univ h_S128x512 rfl) (.inl rfl))

/-- What the kernel does before its first message: the scales, the own chunks into the first two slots of either buffer,
    the weights copied, the product of the own rows. -/
def opening (d0 : Dev nD) : KProg F (F .f32) := do
  let a ← smemLoad sxM (Rect.unit (s := S1) ![0] S1.size inb_S1_S1_0) numel1_S1 rfl
  let b ← smemLoad swM (Rect.unit (s := S1) ![0] S1.size inb_S1_S1_0) numel1_S1 rfl
  let x ← Prog.lift (.load xM (Rect.unit (s := S256x4096) ![0, 0] S256x4096.size inb_S256x4096_S256x4096_0_0).toLoadRect (View.loadsAt_vmem h_S256x4096))
  fill true 0 (k0_pay3 x)
  fill false 0 (k0_pay4 x)
  fill true 1 (k0_pay5 x)
  fill false 1 (k0_pay6 x)
  let w ← Prog.lift (.load wM (Rect.unit (s := S4096x512) ![0, 0] S4096x512.size inb_S4096x512_S4096x512_0_0).toLoadRect (View.loadsAt_vmem h_S4096x512))
  let _ ← ldW
  Prog.lift (.store w8M (Rect.unit (s := S4096x512) ![0, 0] S4096x512.size inb_S4096x512_S4096x512_0_0) (k0_pay8 (k0_pay7 w)) Finset.univ (View.stores_vmem h_S4096x512 ((Memref.isWhole_whole _).storeExact_slice rfl _ packedfp8e4m3_S4096x512_S4096x512_0_0) (fun _ => rfl)) (.inl rfl))
  let v ← ldW
  let _ ← Prog.lift (.load oM (Rect.unit (s := S4096x512) (k0_off1 d0) S256x512.size (k0_off1_inb d0)).toLoadRect (View.loadsAt_vmem h_S256x512))
  Prog.lift (.store oM (Rect.unit (s := S4096x512) (k0_off1 d0) S256x512.size (k0_off1_inb d0)) (k0_pay9 (k0_pay1 a b) (k0_pay2 x) v) Finset.univ (View.stores_vmem_bits_univ h_S256x512 rfl) (.inl rfl))
  pure (k0_pay1 a b)

/-- The rows the chunk of copy `s` of the forward direction is written at. -/
abbrev offF (c : Dev nD) (s : Fin 14) : Fin 2 → ℕ := k0_off2 c (BitVec.ofNat 32 (1 + s.val / 2)) (BitVec.ofNat 32 (128 * (s.val % 2)))
theorem offF_inb (c : Dev nD) (s : Fin 14) : ∀ a, (offF c s) a + S128x512.size a ≤ S4096x512.size a :=
  k0_off2_inb c ⟨s.val / 2, by omega⟩ ⟨s.val % 2, by omega⟩
/-- The rows the chunk of copy `s` of the backward direction is written at. -/
abbrev offB (c : Dev nD) (s : Fin 15) : Fin 2 → ℕ := k0_off3 c (k0_off3_at s).1 (k0_off3_at s).2

/-- Both directions' products of copy `s`. -/
def dots (v10 : F .f32) (c : Dev nD) (s : Fin 14) : KProg F PUnit := do
  dot v10 true ⟨s.val + 2, by omega⟩ (offF c s) (offF_inb c s)
  dot v10 false ⟨s.val + 2, by omega⟩ (offB c ⟨s.val, by omega⟩) (k0_off3_inb c ⟨s.val, by omega⟩)

/-- Round `s`: for either direction wait for copy `s` and start copy `s + 2` (to `n`, to `p`); then the two products. -/
def round (v10 : F .f32) (c n p : Dev nD) (s : Fin 13) : KProg F PUnit := do
  recv true ⟨s.val, by omega⟩
  send true n ⟨s.val + 2, by omega⟩
  recv false ⟨s.val, by omega⟩
  send false p ⟨s.val + 2, by omega⟩
  dots v10 c ⟨s.val, by omega⟩

/-- A step per copy number, in order. -/
def inOrder {n : ℕ} (f : Fin n → KProg F PUnit) : KProg F PUnit := (List.finRange n).foldr (fun s k => f s >>= fun _ => k) (pure ⟨⟩)

end Cert.Ring

end
-- ==== Proof.Ring.Schedule.lean ====
/-
The protocol of the ring: which device holds which half of which rows at which slot, the schedule of the barrier cell and of the
sixty copy cells, what a device owes its neighbours at each moment, and the levels that order the waits.
-/
module

public import proofs.«01_k».proof.Proof.Ring.Plan
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic
public import Mathlib.Algebra.BigOperators.Intervals

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the rounds of the ring's cells with duties named by a direction. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ) (ρ : Dev nD → PrngReg)

/-- The machine at launch: any memory, every counter at zero. -/
def s₀ : MemSt nD τ sig (Elt F) := ⟨m, fun _ => 0, ρ⟩

/-! ## The ring of sixteen -/

/-- The neighbour a direction's copies go to: the next device forward, the previous one backward. -/
def hop (d : Bool) (c : Dev nD) : Dev nD := ⟨(c.val + cond d 1 15) % 16, Nat.mod_lt _ (by decide)⟩

/-- The other direction undoes a direction. -/
theorem hop_hop (d : Bool) (c : Dev nD) : hop (!d) (hop d c) = c := by revert d c; decide
theorem hop_hop' (d : Bool) (c : Dev nD) : hop d (hop (!d) c) = c := by revert d c; decide

/-- The device whose rows reach slot `k` of direction `d` of device `c`: `k / 2` devices against the direction. -/
def orig (d : Bool) (k : Fin 17) (c : Dev nD) : Dev nD := ⟨(c.val + cond d 15 1 * (k.val / 2)) % 16, Nat.mod_lt _ (by decide)⟩

/-- Which half of the rows: the forward slots start with the first half, the backward slots with the second, alternating. -/
def hlf (d : Bool) (k : Fin 17) : Bool := xor (decide (k.val % 2 = 1)) (!d)

/-- A copy carries a half of a device's rows on unchanged. -/
theorem orig_lIx (d : Bool) (s : Fin 15) (c : Dev nD) : orig d (lIx s) (hop d c) = orig d (sIx s) c := by revert d s c; decide
theorem hlf_lIx (d : Bool) (s : Fin 15) : hlf d (lIx s) = hlf d (sIx s) := by revert d s; decide

/-! ## Contents -/

/-- The block of `x` staged on device `c`, -/
def xstg (c : Dev nD) : (cc0_stg0_0 : Ref sig .tc).ty.Contents (Elt F) :=
  (win0_0.blk (0 : Fin 1)).view.read (Elt F) ((s₀ m ρ).mem ((c : Thread nD τ).loc main_arg0))
/-- of the weights, -/
def wstg (c : Dev nD) : (cc0_stg1_0 : Ref sig .tc).ty.Contents (Elt F) :=
  (win0_1.blk (0 : Fin 1)).view.read (Elt F) ((s₀ m ρ).mem ((c : Thread nD τ).loc main_arg1))
/-- and of the two scales. -/
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- The first or the second half of a block of rows. -/
def half : Bool → Vec F S256x4096 .fp8e4m3 → Vec F S128x4096 .fp8e4m3
  | false => k0_pay3
  | true => k0_pay4

/-- What slot `k` of direction `d` of device `c` holds once filled. -/
def cont (d : Bool) (k : Fin 17) (c : Dev nD) : Vec F S128x4096 .fp8e4m3 := half (hlf d k) (xstg m ρ (orig d k c))

/-- What lands is what was sent. -/
theorem cont_lIx (d : Bool) (s : Fin 15) (c : Dev nD) : cont m ρ d (lIx s) (hop d c) = cont m ρ d (sIx s) c := by
  unfold cont; rw [orig_lIx, hlf_lIx]

/-- Device `c` owns slot `k` of direction `d` at share `q`, filled. -/
def slotAt (d : Bool) (k : Fin 17) (q : PosShare TreeShare) (c : Dev nD) : sProp 𝕄 :=
  owns (c : Thread nD τ) (slot d k) q (cont m ρ d k c)
/-- It owns the slot, whatever it holds. -/
def slotAny (d : Bool) (k : Fin 17) (c : Dev nD) : sProp 𝕄 :=
  iprop(∃ X, owns (c : Thread nD τ) (slot d k) fullShare X)

instance slotAt_storable (d : Bool) (k : Fin 17) (q : PosShare TreeShare) (c : Dev nD) :
    BI.Storable (upEmb : UEmb _ 𝕄) (slotAt m ρ d k q c) := by unfold slotAt; infer_instance
omit [FloatOps F] in
instance slotAny_storable (d : Bool) (k : Fin 17) (c : Dev nD) : BI.Storable (upEmb : UEmb _ 𝕄) (slotAny (F := F) d k c) := by
  unfold slotAny; infer_instance

/-! ## The cells -/

/-- The ring's cells on a device: the barrier's, and per direction, role and copy number a DMA cell. -/
abbrev OI : Type := Bool × Bool × Fin 15
abbrev CI : Type := Unit ⊕ OI

abbrev barCell (c : Dev nD) : GSem nD τ sig := ((c : Thread nD τ), .reg barS)
abbrev dCell (d r : Bool) (s : Fin 15) (c : Dev nD) : GSem nD τ sig := ((c : Thread nD τ), .dma (dsem d r s))

/-- The kernel's own semaphores, -/
abbrev osem (x : OI) : SemLoc sig := .dma (dsem x.1 x.2.1 x.2.2)
/-- and all the ring's. -/
abbrev csem : CI → SemLoc sig
  | .inl _ => .reg barS
  | .inr x => osem x
abbrev kcell (ck : Dev nD × CI) : GSem nD τ sig := ((ck.1 : Thread nD τ), csem ck.2)

/-- A DMA semaphore's direction, role and copy number, read off its index. -/
def dirOf (q : DmaSem sig) : Bool := decide (q.val < 35)
def roleOf (q : DmaSem sig) : Bool := decide ((q.val - 5) / 15 % 2 = 1)
def copyOf (q : DmaSem sig) : Fin 15 := ⟨(q.val - 5) % 15, Nat.mod_lt _ (by decide)⟩

theorem dirOf_dsem (d r : Bool) (s : Fin 15) : dirOf (dsem d r s) = d := by revert d r s; decide
theorem roleOf_dsem (d r : Bool) (s : Fin 15) : roleOf (dsem d r s) = r := by revert d r s; decide
theorem copyOf_dsem (d r : Bool) (s : Fin 15) : copyOf (dsem d r s) = s := by revert d r s; decide
theorem dsem_own (d r : Bool) (s : Fin 15) : 5 ≤ (dsem d r s).val := Nat.le_add_right _ _

/-- The kernel's own semaphores are distinct. -/
theorem osem_injective : Function.Injective osem := by
  rintro ⟨d, r, s⟩ ⟨d', r', s'⟩ h
  have h : dsem d r s = dsem d' r' s' := by injection h
  have h1 := congrArg dirOf h
  have h2 := congrArg roleOf h
  have h3 := congrArg copyOf h
  rw [dirOf_dsem, dirOf_dsem] at h1
  rw [roleOf_dsem, roleOf_dsem] at h2
  rw [copyOf_dsem, copyOf_dsem] at h3
  rw [h1, h2, h3]
theorem csem_injective : Function.Injective csem := by
  rintro (⟨⟩ | x) (⟨⟩ | y) h
  · rfl
  · cases h
  · cases h
  · exact congrArg _ (osem_injective h)
theorem kcell_injective : Function.Injective (kcell : Dev nD × CI → GSem nD τ sig) := by
  rintro ⟨c, k⟩ ⟨c', k'⟩ h
  have h1 : c = c' := congrArg (fun g : GSem nD τ sig => g.1.1) h
  subst h1
  exact congrArg _ (csem_injective (congrArg Prod.snd h))

/-- The credit of one chunk. -/
abbrev N : ℕ := (slot true 0).view.dmaCredit
theorem N_pos : 0 < N := View.dmaCredit_pos _ (by decide)
/-- Every chunk's credit is that. -/
theorem credit_slot (d : Bool) (k : Fin 17) : (slot d k).view.dmaCredit = N := by cases d <;> rfl

/-! ## The schedule -/

/-- What a barrier signal along direction `d` brings device `c`: the receiver's slots that `c` will copy into. -/
def barPay (d : Bool) (c : Dev nD) : sProp 𝕄 := bigSep Finset.univ fun s : Fin 15 => slotAny (F := F) d (lIx s) (hop d c)

/-- What a copy's cell brings: its receive cell the slot filled, its send cell the half share of the slot lent to the copy. -/
def dmaPay (d r : Bool) (s : Fin 15) (c : Dev nD) : sProp 𝕄 :=
  if r then slotAt m ρ d (lIx s) fullShare c else slotAt m ρ d (sIx s) fullShare.left c

/-- One round: a barrier cell has a duty of one unit per direction, a copy's cell one duty of a chunk's credit. -/
def ringRd : Rounds.Schedule (GSem nD τ sig) Bool 𝕄 where
  duties g r := if r = 0 ∧ g.1.2 = .tc then (match g.2 with | .reg _ => Finset.univ | .dma q => if 5 ≤ q.val then {false} else ∅) else ∅
  unitless _ := False
  amount g _ _ := match g.2 with | .reg _ => 1 | .dma _ => N
  payload g _ d := match g.2 with | .reg _ => barPay d g.1.1 | .dma q => dmaPay m ρ (dirOf q) (roleOf q) (copyOf q) g.1.1
  amount_pos g _ _ _ := by
    rcases g with ⟨t, q | q⟩
    · exact Nat.one_pos
    · exact N_pos

instance ringRd_payload_storable (g : GSem nD τ sig) (r : ℕ) (d : Bool) :
    BI.Storable (upEmb : UEmb _ 𝕄) ((ringRd (F := F) m ρ).payload g r d) := by
  rcases g with ⟨t, q | q⟩
  · show BI.Storable upEmb (barPay (F := F) d t.1)
    unfold barPay; infer_instance
  · show BI.Storable upEmb (dmaPay m ρ (dirOf q) (roleOf q) (copyOf q) t.1)
    unfold dmaPay; split <;> infer_instance

section Table
variable (c : Dev nD) (d r : Bool) (s : Fin 15)

theorem duties_bar : (ringRd (F := F) m ρ).duties (barCell c) 0 = Finset.univ := by simp [ringRd]
theorem duties_d : (ringRd (F := F) m ρ).duties (dCell d r s c) 0 = {false} := by simp [ringRd, dsem_own d r s]
theorem duties_later (g : GSem nD τ sig) : ∀ r, 1 ≤ r → (ringRd (F := F) m ρ).duties g r = ∅ :=
  fun r hr => if_neg fun h => by omega
theorem expect_bar : (ringRd (F := F) m ρ).expect (barCell c) 0 = 2 := by
  unfold Schedule.expect Schedule.amountOf; rw [duties_bar]; rfl
theorem expect_d : (ringRd (F := F) m ρ).expect (dCell d r s c) 0 = N := by
  unfold Schedule.expect Schedule.amountOf; rw [duties_d, Finset.sum_singleton]; rfl
theorem payload_d : (ringRd (F := F) m ρ).payload (dCell d r s c) 0 false = dmaPay m ρ d r s c := by
  show dmaPay m ρ (dirOf (dsem d r s)) (roleOf (dsem d r s)) (copyOf (dsem d r s)) c = _
  rw [dirOf_dsem, roleOf_dsem, copyOf_dsem]
/-- All a barrier round brings: both neighbours' slots. -/
theorem rest_bar : bigSep ((ringRd (F := F) m ρ).duties (barCell c) 0 \ ∅) (fun d => (ringRd (F := F) m ρ).payload (barCell c) 0 d)
    = iprop(barPay (F := F) true c ∗ barPay (F := F) false c) := by
  rw [Finset.sdiff_empty, duties_bar, bigSep_univ_eq_bigSepL [true, false] (by decide) (by decide), bigSepL_cons_cons, bigSepL_singleton]
  rfl
/-- All a copy's round brings. -/
theorem rest_d : bigSep ((ringRd (F := F) m ρ).duties (dCell d r s c) 0 \ ∅) (fun e => (ringRd (F := F) m ρ).payload (dCell d r s c) 0 e)
    = dmaPay m ρ d r s c := by
  rw [Finset.sdiff_empty, duties_d, bigSep_singleton, payload_d]

end Table

/-! ## What a device owes, in the order it pays -/

/-- The cell of payment `j`: the two signals, then the copies, forward and backward alternating. -/
def payCell (c : Dev nD) (j : ℕ) : GSem nD τ sig :=
  if j = 0 then barCell (hop false c) else if j = 1 then barCell (hop true c)
  else dCell (decide (j % 2 = 0)) true ⟨(j - 2) / 2 % 15, Nat.mod_lt _ (by decide)⟩ (hop (decide (j % 2 = 0)) c)
/-- Its amount. -/
def payAmt (j : ℕ) : ℕ := if j < 2 then 1 else N
/-- Payment `j`. -/
def due (c : Dev nD) (j : ℕ) : CellTallies nD τ sig Unit := tallyAt (payCell c j) () (payAmt j)
/-- What is still owed when the first `k` payments are made. -/
def rem (c : Dev nD) (k : ℕ) : CellTallies nD τ sig Unit := ∑ j ∈ Finset.Ico k 32, due c j

/-- The next payment comes off. -/
theorem rem_succ (c : Dev nD) (k : ℕ) (hk : k < 32) : rem c k = rem c (k + 1) + due c k := by
  unfold rem; rw [Finset.sum_eq_sum_Ico_succ_bot hk, add_comm]
/-- After all of them nothing is owed. -/
theorem rem_end (c : Dev nD) : rem c 32 = 0 := by unfold rem; rw [Finset.Ico_self, Finset.sum_empty]

/-- The payment copy `s` along `d` makes. -/
def payIx (d : Bool) (s : Fin 15) : ℕ := 2 + 2 * s.val + cond d 0 1
theorem payIx_lt (d : Bool) (s : Fin 15) : payIx d s < 32 := by revert d s; decide
theorem due_bar0 (c : Dev nD) : due c 0 = tallyAt (barCell (hop false c)) () 1 := rfl
theorem due_bar1 (c : Dev nD) : due c 1 = tallyAt (barCell (hop true c)) () 1 := rfl
theorem due_copy (d : Bool) (s : Fin 15) (c : Dev nD) : due c (payIx d s) = tallyAt (dCell d true s (hop d c)) () N := by
  have h2 : ¬ payIx d s < 2 := by unfold payIx; omega
  have hd : decide (payIx d s % 2 = 0) = d := by revert d s; decide
  have hs : (⟨(payIx d s - 2) / 2 % 15, Nat.mod_lt _ (by decide)⟩ : Fin 15) = s := by revert d s; decide
  unfold due payCell payAmt
  rw [if_neg h2, if_neg (by omega), if_neg (by omega), hd, hs]

/-! ## Levels -/

def L (g : GSem nD τ sig) : Finset Unit := if g.1.2 = .tc then {()} else ∅
/-- The barrier cells at one, the receive cell of copy `s` at `2 + s`, everything else at zero. -/
def lv (g : GSem nD τ sig) (_ : Unit) : ℕ :=
  match g.2 with
  | .reg _ => 1
  | .dma q => if 5 ≤ q.val ∧ roleOf q = true then 2 + (copyOf q).val else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (d : Bool) (s : Fin 15) : lv (dCell d true s c) () = 2 + s.val := by
  show (if 5 ≤ (dsem d true s).val ∧ roleOf (dsem d true s) = true then 2 + (copyOf (dsem d true s)).val else 0) = _
  rw [if_pos ⟨dsem_own d true s, roleOf_dsem d true s⟩, copyOf_dsem]
/-- The level of payment `j`'s cell. -/
theorem lv_pay (c : Dev nD) (j : ℕ) (hj : j < 32) : lv (payCell c j) () = if j < 2 then 1 else 2 + (j - 2) / 2 := by
  unfold payCell
  rcases j with _ | _ | j
  · rfl
  · rfl
  · rw [if_neg (by omega), if_neg (by omega), lv_recv, if_neg (by omega)]
    show 2 + (j + 1 + 1 - 2) / 2 % 15 = _
    rw [Nat.mod_eq_of_lt (by omega)]

/-- What is owed is owed at the remaining payments' cells. -/
theorem rem_pos {c : Dev nD} {k : ℕ} {g : GSem nD τ sig} {u : Unit} (h : 0 < rem c k g u) : ∃ j, k ≤ j ∧ j < 32 ∧ g = payCell c j := by
  unfold rem at h
  rw [Finset.sum_apply, Finsupp.finsetSum_apply] at h
  obtain ⟨j, hj, h'⟩ := Finset.exists_ne_zero_of_sum_ne_zero (Nat.pos_iff_ne_zero.mp h)
  rw [Finset.mem_Ico] at hj
  exact ⟨j, hj.1, hj.2, (Pipeline.tallyAt_pos (Nat.pos_of_ne_zero h')).1⟩

/-- A device may wait on a cell of its own that lies below everything it still owes. -/
theorem mayWait_rem (c : Dev nD) (sm : SemLoc sig) (k : ℕ) (h : ∀ j, k ≤ j → j < 32 → lv ((c : Thread nD τ), sm) () < lv (payCell c j) ()) :
    (levAts L lv : sProp 𝕄) ⊢ MayWait (c : Thread nD τ) sm () (rem c k) :=
  MayOwe.of_cut (L := L) (lev := lv) (lv ((c : Thread nD τ), sm) ()) (fun p hp => by rw [Finset.mem_singleton.mp hp, L_tc]; exact Finset.mem_singleton_self _)
    (fun g u hg => by
      obtain ⟨j, -, -, rfl⟩ := rem_pos hg
      unfold payCell; split_ifs <;> exact Finset.mem_singleton_self _)
    (fun p hp => by rw [Finset.mem_singleton.mp hp])
    (fun g u hg => by
      obtain ⟨j, h1, h2, rfl⟩ := rem_pos hg
      exact h j h1 h2)

/-- In particular on a cell of level zero, as the pipeline's and the send cells are, while anything is owed, -/
theorem mayWait_zero (c : Dev nD) (sm : SemLoc sig) (h : lv ((c : Thread nD τ), sm) () = 0) (k : ℕ) :
    (levAts L lv : sProp 𝕄) ⊢ MayWait (c : Thread nD τ) sm () (rem c k) :=
  mayWait_rem c sm k fun j _ hj => by rw [h, lv_pay c j hj]; split <;> omega
/-- on the barrier cell once both signals are paid, -/
theorem mayWait_bar (c : Dev nD) : (levAts L lv : sProp 𝕄) ⊢ MayWait (c : Thread nD τ) (.reg barS) () (rem c 2) :=
  mayWait_rem c _ 2 fun j h1 hj => by
    rw [lv_pay c j hj, if_neg (by omega)]; show 1 < _; omega
/-- and on the receive cell of copy `s` once copies `0` to `s + 1` are paid along both directions. -/
theorem mayWait_recv (c : Dev nD) (d : Bool) (s : Fin 15) (k : ℕ) (h : 2 * s.val + 6 ≤ k ∨ 32 ≤ k) :
    (levAts L lv : sProp 𝕄) ⊢ MayWait (c : Thread nD τ) (.dma (dsem d true s)) () (rem c k) :=
  mayWait_rem c _ k fun j h1 hj => by
    rw [lv_pay c j hj, if_neg (by omega)]
    have := lv_recv c d s
    show lv (dCell d true s c) () < _
    omega

end Cert.Ring

end
-- ==== Proof.Ring.Moves.lean ====
/-
Every effect of the body as a step: what it needs and what it leaves, at one slot and one copy.
-/
module

public import proofs.«01_k».proof.Proof.Ring.Schedule

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No variants are declared. -/
abbrev 𝒱₀ : Variants := Variants.none

/-- From `P` the program `p` runs on device `c` and ends in `P'`. -/
abbrev Tr {α : Type} (c : Dev nD) (P : sProp 𝕄) (p : KProg F α) (P' : α → sProp 𝕄) : Prop :=
  P ⊢ wp frame (wpE (defs₀ (F := F)) 𝒱₀ (c : Thread nD τ) none) Set.univ p P'

/-- Steps run one after the other. -/
theorem Tr.bind {α β : Type} {c : Dev nD} {P : sProp 𝕄} {p : KProg F α} {R : α → sProp 𝕄} {k : α → KProg F β} {P' : β → sProp 𝕄}
    (h : Tr c P p R) (hk : ∀ a, Tr c (R a) (k a) P') : Tr c P (p >>= k) P' := by
  unfold Tr; rw [wp_bind]; exact h.trans (wp_mono _ _ _ hk)
/-- A step leaves the rest alone. -/
theorem Tr.frame {α : Type} {c : Dev nD} {P : sProp 𝕄} {p : KProg F α} {P' : α → sProp 𝕄} (h : Tr c P p P') (R : sProp 𝕄) :
    Tr c iprop(P ∗ R) p (fun a => iprop(P' a ∗ R)) := by
  refine BIBase.Entails.trans ?_ (wp_frame_r _ _ _)
  iintro ⟨HP, HR⟩; isplitl [HP]
  · iapply h; iexact HP
  · iexact HR
/-- The states before and after may be restated. -/
theorem Tr.conseq {α : Type} {c : Dev nD} {P P₁ : sProp 𝕄} {p : KProg F α} {Q Q₁ : α → sProp 𝕄} (h : Tr c P p Q) (h₁ : P₁ ⊢ P)
    (h₂ : ∀ a, Q a ⊢ Q₁ a) : Tr c P₁ p Q₁ := h₁.trans (h.trans (wp_mono _ _ _ h₂))

/-! ## What every step has at hand -/

variable (K : Dev nD × CI → ℕ)

/-- The invariants of all the ring's cells, and that each has reached its round. -/
def records : sProp 𝕄 :=
  iprop((bigSep Finset.univ fun ck : Dev nD × CI => cellInv ER (ringRd m ρ) (K ck) (kcell ck))
    ∗ bigSep Finset.univ fun ck : Dev nD × CI => reached ER (kcell ck) 0)

instance records_persistent : BI.Persistent (records m ρ K) := by unfold records; infer_instance

theorem records_inv (ck : Dev nD × CI) : records m ρ K ⊢ cellInv ER (ringRd m ρ) (K ck) (kcell ck) := by
  have h : (bigSep Finset.univ fun ck : Dev nD × CI => (cellInv ER (ringRd m ρ) (K ck) (kcell ck) : sProp 𝕄)) ⊢ cellInv ER (ringRd m ρ) (K ck) (kcell ck) :=
    bigSep_elim (Finset.mem_univ ck)
  unfold records; iintro ⟨H, -⟩; iapply h; iexact H
theorem records_reached (ck : Dev nD × CI) : records m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩; iapply h; iexact H

/-- Device `c` with its first `k` payments made: the records, the levels, and what it still owes. -/
def core (c : Dev nD) (k : ℕ) : sProp 𝕄 := iprop(records m ρ K ∗ levAts L lv ∗ ∃ W, owes (c : Thread nD τ) (rem c k) W)

/-! ## The messages -/

/-- Starting copy `s` along `d` lends half of the slot it reads and gives away the slot it fills; the credit of the send cell
    comes back at once. -/
theorem send_step (c n : Dev nD) (d : Bool) (hn : n = hop d c) (s : Fin 15) (k : ℕ) (hk : k = payIx d s) :
    Tr c iprop(core m ρ K c k ∗ dutyTok ER (dCell d false s c) 0 false ∗ dutyTok ER (dCell d true s (hop d c)) 0 false
        ∗ slotAny (F := F) d (lIx s) (hop d c) ∗ slotAt m ρ d (sIx s) fullShare c)
      (send d n s) (fun _ => iprop(core m ρ K c (k + 1) ∗ cred (tallyAt (dCell d false s c) () N) ∗ slotAt m ρ d (sIx s) fullShare.right c)) := by
  subst hn; subst hk
  unfold Tr core slotAny slotAt
  iintro ⟨⟨#HR, #HL, ⟨%W, HO⟩⟩, Ht1, Ht2, ⟨%X, Hd⟩, Hs⟩
  ihave Hs' := (owns_halves (c : Thread nD τ) (slot d (sIx s)) fullShare (cont m ρ d (sIx s) c)).1 $$ Hs
  icases Hs' with ⟨Hl, Hr⟩
  unfold owns
  icases Hd with ⟨%fd, %hfd, Hd⟩
  icases Hl with ⟨%fs, %hfs, Hl⟩
  unfold send
  iapply (Rounds.wp_send_pointsTo 𝒱₀ ER (ringRd m ρ) (c : Thread nD τ) none (κ₁ := K (c, .inr (d, false, s))) (κ₂ := K (hop d c, .inr (d, true, s)))
    (r₁ := 0) (r₂ := 0) (d₁ := false) (d₂ := false) (fd := fd) (fs := fs) (O₀ := rem c (payIx d s))
    (c' := (hop d c : Thread nD τ)) (src := slot d (sIx s)) (dst := slot d (lIx s)) (sS := .dma (dsem d false s)) (sem := .dma (dsem d true s))
    (by rw [duties_d]; exact Finset.mem_singleton_self _) (by rw [duties_d]; exact Finset.mem_singleton_self _)
    () () N (credit_slot d _) rfl rfl (rem c (payIx d s + 1)) (by rw [rem_succ c _ (payIx_lt d s), due_copy]) (W := W)
    (by
      rw [payload_d]; unfold dmaPay slotAt; rw [if_neg (by decide), ← hfs]
      exact owns_intro (c : Thread nD τ) (slot d (sIx s)) fullShare.left fs)
    (by
      rw [payload_d]; unfold dmaPay slotAt; rw [if_pos rfl, cont_lIx, ← hfs]
      refine (owns_intro (hop d c : Thread nD τ) (slot d (lIx s)) fullShare _).trans ?_
      rw [View.read_write_univ])) $$ [HO Ht1 Ht2 Hd Hl]
  · isplitr; · iapply (records_inv m ρ K (c, .inr (d, false, s))); iexact HR
    isplitr; · iapply (records_inv m ρ K (hop d c, .inr (d, true, s))); iexact HR
    isplitl [Hl]; · iexact Hl
    isplitl [Hd]; · iexact Hd
    isplitl [HO]; · iexact HO
    isplitl [Ht1]; · iexact Ht1
    isplitr; · iapply (records_reached m ρ K (c, .inr (d, false, s))); iexact HR
    isplitl [Ht2]; · iexact Ht2
    iapply (records_reached m ρ K (hop d c, .inr (d, true, s))); iexact HR
  iintro ⟨Hc, HO⟩
  rw [wp_ret]; imodintro
  isplitl [HO]
  · isplitr; · iexact HR
    isplitr; · iexact HL
    iexists W; iexact HO
  isplitl [Hc]; · iexact Hc
  iexact Hr

/-- A wait on one of the own copy cells brings what the cell's round holds. -/
theorem wait_step (c : Dev nD) (d r : Bool) (s : Fin 15) (k : ℕ) {src dst : Memref sig .tc .vmem S128x4096 .fp8e4m3} (h1 : src.view.WordExact) (h2 : dst.view.WordExact)
    (hN : dst.view.dmaCredit = N)
    (hmay : (levAts L lv : sProp 𝕄) ⊢ MayWait (c : Thread nD τ) (.dma (dsem d r s)) () (rem c k)) :
    Tr c iprop(core m ρ K c k ∗ atPos ER (dCell d r s c) 0 ∅ 0 ∗ cred (tallyAt (dCell d r s c) () N))
      (Prog.lift (.waitDma2 (dsem d r s) src dst h1 h2)) (fun _ => iprop(core m ρ K c k ∗ atPos ER (dCell d r s c) 1 ∅ 0 ∗ dmaPay m ρ d r s c)) := by
  unfold Tr core
  iintro ⟨⟨#HR, #HL, ⟨%W, HO⟩⟩, Hat, Hc⟩
  iapply (Rounds.wp_wait_rest_token 𝒱₀ ER (ringRd m ρ) (c : Thread nD τ) none (κ := K (c, .inr (d, r, s)))
      (wpE_waitDma2_eq 𝒱₀ (c : Thread nD τ) none Set.univ) (Set.mem_univ _) () (O := rem c k) (W := W) (R := 0) (m := 0) (T := ∅)
      (by rw [Nat.zero_add, expect_d, hN])) $$ [Hc HO Hat]
  · rw [hN]
    isplitr; · iapply (records_inv m ρ K (c, .inr (d, r, s))); iexact HR
    isplitl [Hc]; · iexact Hc
    isplitl [HO]; · iexact HO
    isplitr; · iapply hmay; iexact HL
    iexact Hat
  iintro ⟨HO, Hat, -, Hpay⟩
  ihave Hp := (Entails.of_eq (rest_d m ρ c d r s)) $$ Hpay
  rw [wp_ret]; imodintro
  isplitl [HO]
  · isplitr; · iexact HR
    isplitr; · iexact HL
    iexists _; iexact HO
  isplitl [Hat]; · iexact Hat
  iexact Hp

/-- Waiting for copy `s` along `d` brings its slot. -/
theorem recv_step (c : Dev nD) (d : Bool) (s : Fin 15) (k : ℕ) (hk : 2 * s.val + 6 ≤ k ∨ 32 ≤ k) :
    Tr c iprop(core m ρ K c k ∗ atPos ER (dCell d true s c) 0 ∅ 0 ∗ cred (tallyAt (dCell d true s c) () N))
      (recv d s) (fun _ => iprop(core m ρ K c k ∗ atPos ER (dCell d true s c) 1 ∅ 0 ∗ slotAt m ρ d (lIx s) fullShare c)) :=
  wait_step m ρ K c d true s k _ _ (credit_slot d _) (mayWait_recv c d s k hk)

/-- Waiting for the own copy `s` along `d` to have left brings the lent half back. -/
theorem sent_step (c : Dev nD) (d : Bool) (s : Fin 15) (k : ℕ) :
    Tr c iprop(core m ρ K c k ∗ atPos ER (dCell d false s c) 0 ∅ 0 ∗ cred (tallyAt (dCell d false s c) () N))
      (sent d s) (fun _ => iprop(core m ρ K c k ∗ atPos ER (dCell d false s c) 1 ∅ 0 ∗ slotAt m ρ d (sIx s) fullShare.left c)) :=
  wait_step m ρ K c d false s k _ _ (credit_slot d _) (mayWait_zero c _ (by
    show (if 5 ≤ (dsem d false s).val ∧ roleOf (dsem d false s) = true then 2 + (copyOf (dsem d false s)).val else 0) = _
    rw [roleOf_dsem]; exact if_neg fun h => Bool.noConfusion h.2) k)

/-- Signalling the neighbour against direction `d` hands it the slots its own copies along `d` land in here. -/
theorem signal_step (c n : Dev nD) (d : Bool) (hn : n = hop (!d) c) (k : ℕ) (hk : k = cond d 0 1) :
    Tr c iprop(core m ρ K c k ∗ dutyTok ER (barCell (hop (!d) c)) 0 d ∗ bigSep Finset.univ fun s : Fin 15 => slotAny (F := F) d (lIx s) c)
      (semSignalWord n barS 1#32) (fun _ => core m ρ K c (k + 1)) := by
  subst hn
  have hO : rem c k = rem c (k + 1) + tallyAt (barCell (hop (!d) c)) () 1 := by
    rw [rem_succ c k (by subst hk; cases d <;> decide)]; subst hk; cases d <;> rfl
  have hpay : (bigSep Finset.univ fun s : Fin 15 => slotAny (F := F) d (lIx s) c) = (ringRd (F := F) m ρ).payload (barCell (hop (!d) c)) 0 d := by
    show _ = barPay (F := F) d (hop (!d) c)
    unfold barPay; rw [hop_hop']
  unfold Tr core semSignalWord
  iintro ⟨⟨#HR, #HL, ⟨%W, HO⟩⟩, Ht, Hs⟩
  iapply (Rounds.wp_signal 𝒱₀ ER (ringRd m ρ) (c : Thread nD τ) none (dst := (hop (!d) c : Thread nD τ)) (κ := K (hop (!d) c, .inl ()))
      (d := d) (by rw [duties_bar]; exact Finset.mem_univ _) (show 1 = _ by decide) () (rem c (k + 1)) (hO.trans (by rfl)) (W := W))
    $$ [HO Ht Hs]
  · isplitr; · iapply (records_inv m ρ K (hop (!d) c, .inl ())); iexact HR
    isplitl [HO]; · iexact HO
    isplitl [Ht]; · iexact Ht
    isplitl [Hs]; · rw [← hpay]; iexact Hs
    iapply (records_reached m ρ K (hop (!d) c, .inl ())); iexact HR
  iintro HO
  rw [wp_ret]; imodintro
  isplitr; · iexact HR
  isplitr; · iexact HL
  iexists W; iexact HO

/-- The barrier wait brings both neighbours' slots. -/
theorem barrier_step (c : Dev nD) :
    Tr c iprop(core m ρ K c 2 ∗ atPos ER (barCell c) 0 ∅ 0 ∗ cred (tallyAt (barCell c) () 2))
      (semWaitWord barS 2#32) (fun _ => iprop(core m ρ K c 2 ∗ atPos ER (barCell c) 1 ∅ 0 ∗ barPay (F := F) true c ∗ barPay (F := F) false c)) := by
  unfold Tr core semWaitWord
  iintro ⟨⟨#HR, #HL, ⟨%W, HO⟩⟩, Hat, Hc⟩
  iapply (Rounds.wp_wait_rest_token 𝒱₀ ER (ringRd m ρ) (c : Thread nD τ) none (κ := K (c, .inl ()))
      (wpE_semWait_eq 𝒱₀ (c : Thread nD τ) none Set.univ) (Set.mem_univ _) () (O := rem c 2) (W := W) (R := 0) (m := 0) (T := ∅)
      (by rw [expect_bar]; decide)) $$ [Hc HO Hat]
  · isplitr; · iapply (records_inv m ρ K (c, .inl ())); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m ρ c)) $$ Hpay
  rw [wp_ret]; imodintro
  isplitl [HO]
  · isplitr; · iexact HR
    isplitr; · iexact HL
    iexists _; iexact HO
  isplitl [Hat]; · iexact Hat
  iexact Hp

/-! ## Loads and stores -/

/-- Loading a slot yields its contents. -/
theorem load_slot (c : Dev nD) (d : Bool) (k : Fin 17) (q : PosShare TreeShare) (X : Vec F S128x4096 .fp8e4m3) {hl : (scr d).view.LoadsAt (slotRect k).toLoadRect} :
    Tr c (owns (c : Thread nD τ) (slot d k) q X) (Prog.lift (.load (scr d) (slotRect k).toLoadRect hl))
      (fun x => iprop(⌜x = X⌝ ∗ owns (c : Thread nD τ) (slot d k) q X)) := by
  unfold Tr owns
  iintro ⟨%f, %hf, H⟩
  iapply (wp_load_rect 𝒱₀ (c : Thread nD τ) none Set.univ (m := scr d) (r := slotRect k) (Finset.Subset.refl _)) $$ H; iintro H
  rw [wp_ret]; imodintro
  isplitr; · ipureintro; exact hf
  iexists f; isplitr; · ipureintro; exact hf
  iexact H

/-- Filling a slot. -/
theorem fill_step (c : Dev nD) (d : Bool) (k : Fin 17) (v : Vec F S128x4096 .fp8e4m3) :
    Tr c (slotAny (F := F) d k c) (fill d k v) (fun _ => owns (c : Thread nD τ) (slot d k) fullShare v) := by
  unfold fill slotAny
  refine Tr.bind (R := fun _ => slotAny (F := F) d k c) ?_ fun _ => ?_
  · iintro ⟨%X, H⟩
    ihave H2 := (load_slot c d k fullShare X) $$ H
    iapply (wp_wand _ _ _) $$ H2
    iintro %a ⟨-, H⟩
    unfold slotAny; iexists X; iexact H
  · unfold Tr slotAny owns
    iintro ⟨%X, %f, %hf, H⟩
    iapply (wp_store 𝒱₀ (c : Thread nD τ) none Set.univ (m := scr d) (r := slotRect k) (Mk := Finset.univ) (S := (slot d k).view.set)
      (Finset.Subset.refl _)) $$ H; iintro H
    rw [wp_ret]; imodintro
    iexists (((scr d).access (slotRect k)).write (Elt F) f v Finset.univ); isplitr
    · ipureintro; exact View.read_write_univ _ _
    iexact H

/-- A buffer of the core, owned whole at contents `f`. -/
abbrev buf (c : Dev nD) (b : Ref sig .tc) (f : b.ty.Contents (Elt F)) : sProp 𝕄 := ((c : Thread nD τ).loc b) ↦{fullShare} f

theorem hz : (![0, 0] : Fin 2 → Nat) = fun _ => 0 := funext fun a => by fin_cases a <;> rfl

/-- Loading a whole buffer yields its contents, -/
theorem load_whole (c : Dev nD) {sp : CoreSpace} {sh : Shape} {e : EltTy} (M : Memref sig .tc sp sh e) (r : Rect sh) (f : Buf (Elt F) (M.view.loc (c : Thread nD τ)))
    {hl : M.view.LoadsAt r.toLoadRect} :
    Tr c (M.view.loc (c : Thread nD τ) ↦{fullShare} f) (Prog.lift (.load M r.toLoadRect hl))
      (fun x => iprop(⌜x = M.view.readAt (Elt F) r.toLoadRect f⌝ ∗ (M.view.loc (c : Thread nD τ) ↦{fullShare} f))) := by
  unfold Tr
  iintro H
  iapply (wp_load 𝒱₀ (c : Thread nD τ) none Set.univ (m := M) (Finset.subset_univ _)) $$ H; iintro H
  rw [wp_ret]; imodintro
  isplitr; · ipureintro; rfl
  iexact H
/-- and a store through a rectangle writes there. -/
theorem store_whole (c : Dev nD) {sp : CoreSpace} {sh : Shape} {e : EltTy} (M : Memref sig .tc sp sh e) (r : Rect sh) (f : Buf (Elt F) (M.view.loc (c : Thread nD τ)))
    (w : r.shape.Idx → Elt F e) {hx : (M.access r).Stores Finset.univ} {hm} :
    Tr c (M.view.loc (c : Thread nD τ) ↦{fullShare} f) (Prog.lift (.store M r w Finset.univ hx hm))
      (fun _ => (M.view.loc (c : Thread nD τ) ↦{fullShare} ((M.access r).write (Elt F) f w Finset.univ))) := by
  unfold Tr
  iintro H
  iapply (wp_store 𝒱₀ (c : Thread nD τ) none Set.univ (m := M) (r := r) (Mk := Finset.univ) (Finset.subset_univ _)) $$ H; iintro H
  rw [wp_ret]; imodintro
  iexact H

end Cert.Ring

end
-- ==== Proof.Ring.Compute.lean ====
/-
The computation of one device: where each chunk's product is written, what the output holds so far, and the steps that compute.
-/
module

public import proofs.«01_k».proof.Proof.Ring.Moves

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the products go -/

/-- The output's block of 128 rows that belongs to slot `k` of direction `d`. -/
def rowBlk (d : Bool) (k : Fin 17) (c : Dev nD) : ℕ := 2 * (orig d k c).val + cond (hlf d k) 1 0
def offD (d : Bool) (k : Fin 17) (c : Dev nD) : Fin 2 → ℕ := ![128 * rowBlk d k c, 0]
theorem rowBlk_lt (d : Bool) (k : Fin 17) (c : Dev nD) : rowBlk d k c < 32 := by
  unfold rowBlk; have := (orig d k c).isLt; have : nD = 16 := rfl; cases hlf d k <;> simp only [cond] <;> omega
theorem offD_inb (d : Bool) (k : Fin 17) (c : Dev nD) : ∀ a, offD d k c a + S128x512.size a ≤ S4096x512.size a := by
  have := rowBlk_lt d k c
  intro a; fin_cases a
  · show 128 * rowBlk d k c + 128 ≤ 4096; omega
  · show 0 + 512 ≤ 512; omega

/-- The rows of the output a chunk's product fills, -/
abbrev chunkRect (d : Bool) (k : Fin 17) (c : Dev nD) : Rect S4096x512 := Rect.unit (s := S4096x512) (offD d k c) S128x512.size (offD_inb d k c)
/-- and the rows of the own product. -/
abbrev ownRect (c : Dev nD) : Rect S4096x512 := Rect.unit (s := S4096x512) (k0_off1 c) S256x512.size (k0_off1_inb c)

/-- The kernel's offsets are those. -/
theorem offF_eq (c : Dev nD) (s : Fin 14) : offF c s = offD true ⟨s.val + 2, by omega⟩ c := by revert c s; decide +kernel
theorem offB_eq (c : Dev nD) (s : Fin 15) : offB c s = offD false ⟨s.val + 2, by omega⟩ c := by revert c s; decide +kernel
theorem off4_eq (c : Dev nD) : k0_off4 c = offD true 16 c := by revert c; decide +kernel

/-- Two different chunks fill different blocks of rows, none of them the own ones. -/
theorem rowBlk_inj (c : Dev nD) (d d' : Bool) (k k' : Fin 17) (hk : 2 ≤ k.val) (hk' : 2 ≤ k'.val) (h : rowBlk d k c = rowBlk d' k' c) : d = d' ∧ k = k' := by
  revert c d d' k k'; decide +kernel
theorem rowBlk_own (c : Dev nD) (d : Bool) (k : Fin 17) (hk : 2 ≤ k.val) : rowBlk d k c / 2 ≠ c.val := by revert c d k; decide +kernel
/-- Every block of rows but the own two is some chunk's. -/
theorem rowBlk_surj (c : Dev nD) (b : Fin 32) (h : b.val / 2 ≠ c.val) : ∃ d : Bool, ∃ k : Fin 17, 2 ≤ k.val ∧ rowBlk d k c = b.val := by
  revert c b; decide +kernel

/-! ## What is computed -/

/-- The one element of a scale's buffer. -/
abbrev one1 : S1.Idx := Shape.Idx.first (by decide)
theorem idx_one1 (i : S1.Idx) : i = one1 := funext fun a => by fin_cases a; exact Subsingleton.elim (α := Fin 1) _ _

/-- The product of the two scales, -/
def scale (c : Dev nD) : F .f32 := k0_pay1 (sxstg m ρ c one1) (swstg m ρ c one1)
/-- the core's copy of the weights, -/
def wcopy (c : Dev nD) : Vec F S4096x512 .fp8e4m3 := k0_pay8 (k0_pay7 (wstg m ρ c))
/-- the product of the own rows, -/
def ownProd (c : Dev nD) : FVec F S256x512 .f32 := k0_pay9 (scale m ρ c) (k0_pay2 (xstg m ρ c)) (wcopy m ρ c)
/-- and of the chunk in a slot. -/
def prod (d : Bool) (k : Fin 17) (c : Dev nD) : FVec F S128x512 .f32 := k0_pay10 (scale m ρ c) (cont m ρ d k c) (wcopy m ρ c)

/-- The output holds the own product and the first chunks' products of either direction. -/
def OutOk (c : Dev nD) (nT nF : ℕ) (f : (cc0_stg4_0 : Ref sig .tc).ty.Contents (Elt F)) : Prop :=
  (∀ y, f ((ownRect c).emb y) = ownProd m ρ c y)
    ∧ ∀ (d : Bool) (k : Fin 17), 2 ≤ k.val → k.val < cond d nT nF → ∀ y, f ((chunkRect d k c).emb y) = prod m ρ d k c y

/-- The block of rows an element of a chunk's rectangle lies in. -/
theorem chunk_row (d : Bool) (k : Fin 17) (c : Dev nD) (y : (chunkRect d k c).shape.Idx) : ((chunkRect d k c).emb y 0).val / 128 = rowBlk d k c := by
  have h : ((chunkRect d k c).emb y 0).val = 128 * rowBlk d k c + 1 * (y 0).val := rfl
  have h2 : (y 0).val < 128 := (y 0).isLt
  omega
theorem own_row (c : Dev nD) (y : (ownRect c).shape.Idx) : ((ownRect c).emb y 0).val / 256 = c.val := by
  have h : ((ownRect c).emb y 0).val = k0_off1 c 0 + 1 * (y 0).val := rfl
  have h1 : k0_off1 c 0 = 256 * c.val := by rw [k0_off1_eq]; rfl
  have h2 : (y 0).val < 256 := (y 0).isLt
  omega

/-- A write at a chunk's rows puts the payload there -/
theorem write_at (r : Rect S4096x512) (f : (cc0_stg4_0 : Ref sig .tc).ty.Contents (Elt F)) (w : r.shape.Idx → Elt F .f32) (y : r.shape.Idx) :
    ((oM.access r).write (Elt F) f w Finset.univ) (r.emb y) = w y :=
  (View.read_slice_write_emb (v := oM.view) r f w (Finset.mem_univ y))
/-- and leaves every element outside. -/
theorem write_off (r : Rect S4096x512) (f : (cc0_stg4_0 : Ref sig .tc).ty.Contents (Elt F)) (w : r.shape.Idx → Elt F .f32) (i : S4096x512.Idx) (h : ∀ y, i ≠ r.emb y) :
    ((oM.access r).write (Elt F) f w Finset.univ) i = f i :=
  (View.read_slice_write_of_not_mem (v := oM.view) r f w Finset.univ (fun hm => by
    obtain ⟨y, -, hy⟩ := Finset.mem_map.mp hm; exact h y hy.symm))

/-- The own product written first. -/
theorem OutOk.init (c : Dev nD) (f : (cc0_stg4_0 : Ref sig .tc).ty.Contents (Elt F)) :
    OutOk m ρ c 2 2 ((oM.access (ownRect c)).write (Elt F) f (ownProd m ρ c) Finset.univ) :=
  ⟨fun y => write_at _ f _ y, fun d k h1 h2 => by cases d <;> simp only [cond] at h2 <;> omega⟩
/-- The next chunk's product written. -/
theorem OutOk.step (c : Dev nD) (d : Bool) (k : Fin 17) (hk : 2 ≤ k.val) (nT nF nT' nF' : ℕ) (hn : cond d nT nF = k.val)
    (hn' : ∀ e, cond e nT' nF' = if e = d then k.val + 1 else cond e nT nF)
    (f : (cc0_stg4_0 : Ref sig .tc).ty.Contents (Elt F)) (h : OutOk m ρ c nT nF f) :
    OutOk m ρ c nT' nF' ((oM.access (chunkRect d k c)).write (Elt F) f (prod m ρ d k c) Finset.univ) := by
  refine ⟨fun y => ?_, fun e j hj hj' y => ?_⟩
  · rw [write_off]
    · exact h.1 y
    · intro z hz
      have h1 := own_row c y
      have h2 := chunk_row d k c z
      rw [← hz] at h2
      refine rowBlk_own c d k hk ?_
      omega
  · by_cases he : e = d ∧ j = k
    · obtain ⟨rfl, rfl⟩ := he
      exact write_at _ f _ y
    · rw [write_off]
      · refine h.2 e j hj ?_ y
        rw [hn'] at hj'
        split at hj'
        · next h' =>
          subst h'
          have : j.val ≠ k.val := fun hh => he ⟨rfl, Fin.ext hh⟩
          omega
        · exact hj'
      · intro z hz
        have h1 := chunk_row e j c y
        have h2 := chunk_row d k c z
        rw [← hz] at h2
        exact he (rowBlk_inj c e d j k hj hk (h1.symm.trans h2))

/-! ## The steps that compute -/

/-- The copied weights and the output with its first chunks done. -/
def work (c : Dev nD) (nT nF : ℕ) : sProp 𝕄 :=
  iprop(buf c cc0_scratch2 (wcopy m ρ c) ∗ ∃ f, ⌜OutOk m ρ c nT nF f⌝ ∗ buf c cc0_stg4_0 f)

theorem ldW_step (c : Dev nD) (f : (cc0_scratch2 : Ref sig .tc).ty.Contents (Elt F)) :
    Tr c (buf c cc0_scratch2 f) ldW (fun w => iprop(⌜w = f⌝ ∗ buf c cc0_scratch2 f)) := by
  have h := load_whole c w8M (Rect.unit (s := S4096x512) ![0, 0] S4096x512.size inb_S4096x512_S4096x512_0_0) f (hl := View.loadsAt_vmem h_S4096x512)
  have e : w8M.view.readAt (Elt F) (Rect.unit (s := S4096x512) ![0, 0] S4096x512.size inb_S4096x512_S4096x512_0_0).toLoadRect f = f :=
    Memref.readAt_unit_zero (Elt F) cc0_scratch2 hz _ f
  rw [e] at h
  exact h

/-- The product of a filled slot. -/
theorem dot_step (c : Dev nD) (d : Bool) (k : Fin 17) (hk : 2 ≤ k.val) (q : PosShare TreeShare) (nT nF nT' nF' : ℕ) (hn : cond d nT nF = k.val)
    (hn' : ∀ e, cond e nT' nF' = if e = d then k.val + 1 else cond e nT nF)
    (off : Fin 2 → ℕ) (h : ∀ a, off a + S128x512.size a ≤ S4096x512.size a) (hoff : off = offD d k c) :
    Tr c iprop(slotAt m ρ d k q c ∗ work m ρ c nT nF) (dot (scale m ρ c) d k off h) (fun _ => iprop(slotAt m ρ d k q c ∗ work m ρ c nT' nF')) := by
  subst hoff
  unfold Tr dot slotAt work
  rw [wp_bind]
  iintro ⟨Hs, Hw, ⟨%f, %hf, Ho⟩⟩
  ihave H := (load_slot c d k q (cont m ρ d k c) (hl := View.loadsAt_vmem h_S128x4096)) $$ Hs
  iapply (wp_wand _ _ _) $$ H
  iintro %x ⟨%hx, Hs⟩
  subst hx
  rw [wp_bind]
  ihave H := (ldW_step c (wcopy m ρ c)) $$ Hw
  iapply (wp_wand _ _ _) $$ H
  iintro %w ⟨%hw, Hw⟩
  subst hw
  rw [wp_bind]
  ihave H := (load_whole c oM (chunkRect d k c) f (hl := View.loadsAt_vmem h_S128x512)) $$ Ho
  iapply (wp_wand _ _ _) $$ H
  iintro %o ⟨-, Ho⟩
  ihave H := (store_whole c oM (chunkRect d k c) f (k0_pay10 (scale m ρ c) (cont m ρ d k c) (wcopy m ρ c))
    (hx := View.stores_vmem_bits_univ h_S128x512 rfl) (hm := .inl rfl)) $$ Ho
  iapply (wp_wand _ _ _) $$ H
  iintro %u Ho
  isplitl [Hs]; · iexact Hs
  isplitl [Hw]; · iexact Hw
  iexists _; isplitr
  · ipureintro; exact OutOk.step m ρ c d k hk nT nF nT' nF' hn hn' f hf
  iexact Ho

/-- The staged inputs. -/
def inputs (c : Dev nD) : sProp 𝕄 :=
  iprop(buf c cc0_stg0_0 (xstg m ρ c) ∗ buf c cc0_stg1_0 (wstg m ρ c) ∗ buf c cc0_stg2_0 (sxstg m ρ c) ∗ buf c cc0_stg3_0 (swstg m ρ c))

/-- The first two slots hold the own rows. -/
theorem cont_first (d : Bool) (k : Fin 17) (hk : k.val < 2) (c : Dev nD) : cont m ρ d k c = half (hlf d k) (xstg m ρ c) := by
  have h : orig d k c = c := by revert d k c; decide +kernel
  unfold cont; rw [h]

/-- Loading a scale. -/
theorem smem_step (c : Dev nD) (b : Ref sig .tc) (M : Memref sig .tc .smem S1 .f32) (r : Rect S1) (h1 : r.shape.numel = 1) (hp : EltTy.packing .f32 = 1)
    (f : Buf (Elt F) (M.view.loc (c : Thread nD τ))) :
    Tr c (M.view.loc (c : Thread nD τ) ↦{fullShare} f) (smemLoad M r h1 hp)
      (fun x => iprop(⌜x = M.view.read (Elt F) f one1⌝ ∗ (M.view.loc (c : Thread nD τ) ↦{fullShare} f))) := by
  unfold Tr smemLoad
  iintro H
  iapply (wp_smemLoadElt 𝒱₀ (c : Thread nD τ) none Set.univ (m := M) (r := r) (S := Finset.univ) (Finset.subset_univ _)) $$ H; iintro H
  rw [wp_ret]; imodintro
  isplitr
  · ipureintro; exact congrArg (M.view.read (Elt F) f) (idx_one1 (r.emb _))
  iexact H

/-- Storing over the whole copy of the weights. -/
theorem stW_step (c : Dev nD) (f w : (cc0_scratch2 : Ref sig .tc).ty.Contents (Elt F)) {hx hm} :
    Tr c (buf c cc0_scratch2 f) (Prog.lift (.store w8M (Rect.unit (s := S4096x512) ![0, 0] S4096x512.size inb_S4096x512_S4096x512_0_0) w Finset.univ hx hm))
      (fun _ => buf c cc0_scratch2 w) := by
  have h := store_whole c w8M (Rect.unit (s := S4096x512) ![0, 0] S4096x512.size inb_S4096x512_S4096x512_0_0) f w (hx := hx) (hm := hm)
  have e : (w8M.access (Rect.unit (s := S4096x512) ![0, 0] S4096x512.size inb_S4096x512_S4096x512_0_0)).write (Elt F) f w Finset.univ = w :=
    Memref.write_access_unit_zero_univ (Elt F) cc0_scratch2 hz _ f w
  rw [e] at h
  exact h

/-- What the opening needs: the inputs, the first two slots either way, the weights' copy and the output, -/
def openPre (c : Dev nD) : sProp 𝕄 :=
  iprop(inputs m ρ c ∗ (slotAny (F := F) true 0 c ∗ slotAny (F := F) true 1 c) ∗ (slotAny (F := F) false 0 c ∗ slotAny (F := F) false 1 c)
    ∗ (∃ f, buf c cc0_scratch2 f) ∗ ∃ f, buf c cc0_stg4_0 f)
/-- and what it leaves. -/
def openPost (c : Dev nD) : sProp 𝕄 :=
  iprop(inputs m ρ c ∗ (slotAt m ρ true 0 fullShare c ∗ slotAt m ρ true 1 fullShare c) ∗ (slotAt m ρ false 0 fullShare c ∗ slotAt m ρ false 1 fullShare c)
    ∗ work m ρ c 2 2)

theorem opening_step (c : Dev nD) : Tr c (openPre m ρ c) (opening c) (fun v => iprop(⌜v = scale m ρ c⌝ ∗ openPost m ρ c)) := by
  unfold Tr openPre inputs opening
  simp only [wp_bind]
  iintro ⟨⟨Hx, Hw, Hsx, Hsw⟩, ⟨HT0, HT1⟩, ⟨HF0, HF1⟩, ⟨%fw, Hc⟩, ⟨%fo, Ho⟩⟩
  ihave H := (smem_step c cc0_stg2_0 sxM (Rect.unit (s := S1) ![0] S1.size inb_S1_S1_0) numel1_S1 rfl (sxstg m ρ c)) $$ Hsx
  iapply (wp_wand _ _ _) $$ H
  iintro %a ⟨%ha, Hsx⟩
  ihave H := (smem_step c cc0_stg3_0 swM (Rect.unit (s := S1) ![0] S1.size inb_S1_S1_0) numel1_S1 rfl (swstg m ρ c)) $$ Hsw
  iapply (wp_wand _ _ _) $$ H
  iintro %b ⟨%hb, Hsw⟩
  ihave H := (load_whole c xM (Rect.unit (s := S256x4096) ![0, 0] S256x4096.size inb_S256x4096_S256x4096_0_0) (xstg m ρ c) (hl := View.loadsAt_vmem h_S256x4096)) $$ Hx
  iapply (wp_wand _ _ _) $$ H
  iintro %x ⟨%hx, Hx⟩
  have hx : x = xstg m ρ c := hx.trans (Memref.readAt_unit_zero (Elt F) cc0_stg0_0 hz _ _)
  ihave H := (fill_step c true 0 (k0_pay3 x)) $$ HT0
  iapply (wp_wand _ _ _) $$ H
  iintro %_ HT0
  ihave H := (fill_step c false 0 (k0_pay4 x)) $$ HF0
  iapply (wp_wand _ _ _) $$ H
  iintro %_ HF0
  ihave H := (fill_step c true 1 (k0_pay5 x)) $$ HT1
  iapply (wp_wand _ _ _) $$ H
  iintro %_ HT1
  ihave H := (fill_step c false 1 (k0_pay6 x)) $$ HF1
  iapply (wp_wand _ _ _) $$ H
  iintro %_ HF1
  ihave H := (load_whole c wM (Rect.unit (s := S4096x512) ![0, 0] S4096x512.size inb_S4096x512_S4096x512_0_0) (wstg m ρ c) (hl := View.loadsAt_vmem h_S4096x512)) $$ Hw
  iapply (wp_wand _ _ _) $$ H
  iintro %w ⟨%hw, Hw⟩
  have hw : w = wstg m ρ c := hw.trans (Memref.readAt_unit_zero (Elt F) cc0_stg1_0 hz _ _)
  ihave H := (ldW_step c fw) $$ Hc
  iapply (wp_wand _ _ _) $$ H
  iintro %_ ⟨-, Hc⟩
  ihave H := (stW_step c fw (k0_pay8 (k0_pay7 w))) $$ Hc
  iapply (wp_wand _ _ _) $$ H
  iintro %_ Hc
  ihave H := (ldW_step c (k0_pay8 (k0_pay7 w))) $$ Hc
  iapply (wp_wand _ _ _) $$ H
  iintro %v ⟨%hv, Hc⟩
  ihave H := (load_whole c oM (ownRect c) fo (hl := View.loadsAt_vmem h_S256x512)) $$ Ho
  iapply (wp_wand _ _ _) $$ H
  iintro %_ ⟨-, Ho⟩
  ihave H := (store_whole c oM (ownRect c) fo (k0_pay9 (k0_pay1 a b) (k0_pay2 x) v) (hx := View.stores_vmem_bits_univ h_S256x512 rfl) (hm := .inl rfl)) $$ Ho
  iapply (wp_wand _ _ _) $$ H
  iintro %_ Ho
  rw [wp_pure]; imodintro
  subst hx hw hv
  have ha : a = sxstg m ρ c one1 := ha
  have hb : b = swstg m ρ c one1 := hb
  subst ha hb
  isplitr; · ipureintro; rfl
  unfold openPost inputs work slotAt
  rw [cont_first m ρ true 0 (by decide), cont_first m ρ true 1 (by decide), cont_first m ρ false 0 (by decide), cont_first m ρ false 1 (by decide)]
  isplitl [Hx Hw Hsx Hsw]
  · isplitl [Hx]; · iexact Hx
    isplitl [Hw]; · iexact Hw
    isplitl [Hsx]; · iexact Hsx
    iexact Hsw
  isplitl [HT0 HT1]
  · isplitl [HT0]; · iexact HT0
    iexact HT1
  isplitl [HF0 HF1]
  · isplitl [HF0]; · iexact HF0
    iexact HF1
  isplitl [Hc]; · iexact Hc
  iexists _; isplitr
  · ipureintro; exact OutOk.init m ρ c fo
  iexact Ho

end Cert.Ring

end
-- ==== Proof.Ring.BodyEq.lean ====
/-
The printed body is the short program of `Plan`.
-/
module

public import proofs.«01_k».proof.Proof.Ring.Plan

@[expose] public section

noncomputable section

namespace Cert.Ring

open Cert.KernelIdeal Cert.KernelIdeal.Gen
open Idealize.ShloMosaic Idealize.SL.Sem

variable {F : FTy → Type} [FloatOps F]

/-- The body: the opening, the handshake with both neighbours, the first two copies either way, the thirteen rounds, the
    last two copies' products, and the waits for the own copies to have left. -/
def body : KProg F PUnit := do
  let c ← Prog.lift .deviceId
  let v10 ← opening c
  semSignalWord (⟨k0_dev1 c, k0_dev1_lt c⟩ : Dev nD) barS 1#32
  semSignalWord (⟨k0_dev2 c, k0_dev2_lt c⟩ : Dev nD) barS 1#32
  semWaitWord barS 2#32
  send true ⟨k0_dev3 c, k0_dev3_lt c⟩ 0
  send false ⟨k0_dev4 c, k0_dev4_lt c⟩ 0
  send true ⟨k0_dev5 c, k0_dev5_lt c⟩ 1
  send false ⟨k0_dev6 c, k0_dev6_lt c⟩ 1
  round v10 c ⟨k0_dev7 c, k0_dev7_lt c⟩ ⟨k0_dev8 c, k0_dev8_lt c⟩ 0
  round v10 c ⟨k0_dev9 c, k0_dev9_lt c⟩ ⟨k0_dev10 c, k0_dev10_lt c⟩ 1
  round v10 c ⟨k0_dev11 c, k0_dev11_lt c⟩ ⟨k0_dev12 c, k0_dev12_lt c⟩ 2
  round v10 c ⟨k0_dev13 c, k0_dev13_lt c⟩ ⟨k0_dev14 c, k0_dev14_lt c⟩ 3
  round v10 c ⟨k0_dev15 c, k0_dev15_lt c⟩ ⟨k0_dev16 c, k0_dev16_lt c⟩ 4
  round v10 c ⟨k0_dev17 c, k0_dev17_lt c⟩ ⟨k0_dev18 c, k0_dev18_lt c⟩ 5
  round v10 c ⟨k0_dev19 c, k0_dev19_lt c⟩ ⟨k0_dev20 c, k0_dev20_lt c⟩ 6
  round v10 c ⟨k0_dev21 c, k0_dev21_lt c⟩ ⟨k0_dev22 c, k0_dev22_lt c⟩ 7
  round v10 c ⟨k0_dev23 c, k0_dev23_lt c⟩ ⟨k0_dev24 c, k0_dev24_lt c⟩ 8
  round v10 c ⟨k0_dev25 c, k0_dev25_lt c⟩ ⟨k0_dev26 c, k0_dev26_lt c⟩ 9
  round v10 c ⟨k0_dev27 c, k0_dev27_lt c⟩ ⟨k0_dev28 c, k0_dev28_lt c⟩ 10
  round v10 c ⟨k0_dev29 c, k0_dev29_lt c⟩ ⟨k0_dev30 c, k0_dev30_lt c⟩ 11
  round v10 c ⟨k0_dev31 c, k0_dev31_lt c⟩ ⟨k0_dev32 c, k0_dev32_lt c⟩ 12
  recv true 13
  recv false 13
  dots v10 c 13
  recv true 14
  dot v10 true 16 (k0_off4 c) (k0_off4_inb c)
  recv false 14
  dot v10 false 16 (offB c 14) (k0_off3_inb c 14)
  inOrder (sent true)
  inOrder (sent false)

set_option maxRecDepth 65536 in
set_option maxHeartbeats 4000000 in
/-- The printed body is that program. -/
theorem body_eq : cc0_body (F := F) xM (Memref.isWhole_whole _) wM (Memref.isWhole_whole _) sxM (Memref.isWhole_whole _) swM (Memref.isWhole_whole _)
    oM (Memref.isWhole_whole _) (Memref.whole cc0_scratch0) (Memref.isWhole_whole _) (Memref.whole cc0_scratch1) (Memref.isWhole_whole _)
    w8M (Memref.isWhole_whole _) cc0_scratch3 cc0_scratch4 cc0_scratch5 cc0_scratch6 = body := rfl

end Cert.Ring

end
-- ==== Proof.Ring.Body.lean ====
/-
The state of a direction, indexed by how many copies are sent, received and known to have left; every step moves one of the three
counters; and the body run from its start to its end.
-/
module

public import proofs.«01_k».proof.Proof.Ring.Compute
public import proofs.«01_k».proof.Proof.Ring.BodyEq

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- One member of a family changes, the others stay. -/
theorem bigSep_one {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  have e1 : bigSep Finset.univ Φ = iprop(Φ i ∗ bigSep (Finset.univ.erase i) Φ) := bigSep_erase (Finset.mem_univ i)
  have e2 : bigSep Finset.univ Ψ = iprop(Ψ i ∗ bigSep (Finset.univ.erase i) Φ) := by
    rw [bigSep_congr (s := Finset.univ.erase i) (Φ := Φ) (Ψ := Ψ) fun j hj => h j (Finset.ne_of_mem_erase hj)]
    exact bigSep_erase (Finset.mem_univ i)
  rw [e1, e2]
  iintro ⟨H, R⟩
  isplitl [H]; · iexact H
  iintro H'
  isplitl [H']; · iexact H'
  iexact R

/-! ## The state of a direction -/

/-- What a device pays copy `s` with: its own send duty and the receiver's. -/
def payToks (d : Bool) (s : Fin 15) (c : Dev nD) : sProp 𝕄 :=
  iprop(dutyTok ER (dCell d false s c) 0 false ∗ dutyTok ER (dCell d true s (hop d c)) 0 false)

/-- Copy `s` with `n` started and `w` known to have left. -/
def sendSt (d : Bool) (n w : ℕ) (s : Fin 15) (c : Dev nD) : sProp 𝕄 :=
  if s.val < w then atPos ER (dCell d false s c) 1 ∅ 0
  else iprop(atPos ER (dCell d false s c) 0 ∅ 0
    ∗ (if s.val < n then cred (tallyAt (dCell d false s c) () N) else iprop(payToks (F := F) d s c ∗ slotAny (F := F) d (lIx s) (hop d c))))

/-- The receive cell of copy `s` with `r` received. -/
def recvSt (d : Bool) (r : ℕ) (s : Fin 15) (c : Dev nD) : sProp 𝕄 :=
  if s.val < r then atPos ER (dCell d true s c) 1 ∅ 0 else iprop(atPos ER (dCell d true s c) 0 ∅ 0 ∗ cred (tallyAt (dCell d true s c) () N))

/-- The share of slot `k` the device holds: all of it when its copy has left or not started, half while the copy is under way,
    none before it is received. -/
def slotSt (d : Bool) (n r w : ℕ) (k : Fin 17) (c : Dev nD) : sProp 𝕄 :=
  if k.val < w then slotAt m ρ d k fullShare c else if k.val < n then slotAt m ρ d k fullShare.right c
  else if k.val < r + 2 then slotAt m ρ d k fullShare c else iprop(emp)

/-- A direction with `n` copies started, `r` received and `w` known to have left. -/
def dir (d : Bool) (n r w : ℕ) (c : Dev nD) : sProp 𝕄 :=
  iprop((bigSep Finset.univ fun s => sendSt (F := F) d n w s c) ∗ (bigSep Finset.univ fun s => recvSt (F := F) d r s c)
    ∗ bigSep Finset.univ fun k => slotSt m ρ d n r w k c)

/-- Starting the next copy. -/
theorem send_dir (c p : Dev nD) (d : Bool) (hp : p = hop d c) (s : Fin 15) (k r : ℕ) (hk : k = payIx d s) (hr : s.val < r + 2) :
    Tr c iprop(core m ρ K c k ∗ dir m ρ d s.val r 0 c) (send d p s) (fun _ => iprop(core m ρ K c (k + 1) ∗ dir m ρ d (s.val + 1) r 0 c)) := by
  have h1 := bigSep_one s (fun j => sendSt (F := F) d s.val 0 j c) (fun j => sendSt (F := F) d (s.val + 1) 0 j c) (fun j hj => by
    have : j.val ≠ s.val := fun h => hj (Fin.ext h)
    unfold sendSt; simp only [show (j.val < s.val + 1) = (j.val < s.val) from propext ⟨fun _ => by omega, fun _ => by omega⟩])
  have h2 := bigSep_one (sIx s) (fun j => slotSt m ρ d s.val r 0 j c) (fun j => slotSt m ρ d (s.val + 1) r 0 j c) (fun j hj => by
    have : j.val ≠ s.val := fun h => hj (Fin.ext h)
    unfold slotSt; simp only [show (j.val < s.val + 1) = (j.val < s.val) from propext ⟨fun _ => by omega, fun _ => by omega⟩])
  have e1 : sendSt (F := F) d s.val 0 s c = iprop(atPos ER (dCell d false s c) 0 ∅ 0 ∗ payToks (F := F) d s c ∗ slotAny (F := F) d (lIx s) (hop d c)) := by
    unfold sendSt; rw [if_neg (by omega), if_neg (by omega)]
  have e2 : sendSt (F := F) d (s.val + 1) 0 s c = iprop(atPos ER (dCell d false s c) 0 ∅ 0 ∗ cred (tallyAt (dCell d false s c) () N)) := by
    unfold sendSt; rw [if_neg (by omega), if_pos (by omega)]
  have e3 : slotSt m ρ d s.val r 0 (sIx s) c = slotAt m ρ d (sIx s) fullShare c := by
    unfold slotSt; rw [if_neg (by omega), if_neg (by show ¬ s.val < s.val; omega), if_pos (by show s.val < r + 2; omega)]
  have e4 : slotSt m ρ d (s.val + 1) r 0 (sIx s) c = slotAt m ρ d (sIx s) fullShare.right c := by
    unfold slotSt; rw [if_neg (by omega), if_pos (by show s.val < s.val + 1; omega)]
  simp only [e1, e2] at h1
  simp only [e3, e4] at h2
  unfold Tr dir
  iintro ⟨HC, HS, HR, HK⟩
  ihave HS := h1 $$ HS
  icases HS with ⟨⟨Hat, Ht, Hd⟩, HS⟩
  ihave HK := h2 $$ HK
  icases HK with ⟨Hsl, HK⟩
  unfold payToks
  icases Ht with ⟨Ht1, Ht2⟩
  ihave H := (send_step m ρ K c p d hp s k hk) $$ [HC Ht1 Ht2 Hd Hsl]
  · isplitl [HC]; · iexact HC
    isplitl [Ht1]; · iexact Ht1
    isplitl [Ht2]; · iexact Ht2
    isplitl [Hd]; · iexact Hd
    iexact Hsl
  iapply (wp_wand _ _ _) $$ H
  iintro %_ ⟨HC, Hc, Hsl⟩
  isplitl [HC]; · iexact HC
  isplitl [HS Hat Hc]
  · iapply HS; isplitl [Hat]; · iexact Hat
    iexact Hc
  isplitl [HR]; · iexact HR
  iapply HK; iexact Hsl

/-- Receiving the next copy. -/
theorem recv_dir (c : Dev nD) (d : Bool) (s : Fin 15) (k n : ℕ) (hk : 2 * s.val + 6 ≤ k ∨ 32 ≤ k) (hn : n ≤ s.val + 2) :
    Tr c iprop(core m ρ K c k ∗ dir m ρ d n s.val 0 c) (recv d s) (fun _ => iprop(core m ρ K c k ∗ dir m ρ d n (s.val + 1) 0 c)) := by
  have h1 := bigSep_one s (fun j => recvSt (F := F) d s.val j c) (fun j => recvSt (F := F) d (s.val + 1) j c) (fun j hj => by
    have : j.val ≠ s.val := fun h => hj (Fin.ext h)
    unfold recvSt; simp only [show (j.val < s.val + 1) = (j.val < s.val) from propext ⟨fun _ => by omega, fun _ => by omega⟩])
  have h2 := bigSep_one (lIx s) (fun j => slotSt m ρ d n s.val 0 j c) (fun j => slotSt m ρ d n (s.val + 1) 0 j c) (fun j hj => by
    have : j.val ≠ s.val + 2 := fun h => hj (Fin.ext h)
    unfold slotSt; simp only [show (j.val < s.val + 1 + 2) = (j.val < s.val + 2) from propext ⟨fun _ => by omega, fun _ => by omega⟩])
  have e1 : recvSt (F := F) d s.val s c = iprop(atPos ER (dCell d true s c) 0 ∅ 0 ∗ cred (tallyAt (dCell d true s c) () N)) := by
    unfold recvSt; rw [if_neg (by omega)]
  have e2 : recvSt (F := F) d (s.val + 1) s c = atPos ER (dCell d true s c) 1 ∅ 0 := by
    unfold recvSt; rw [if_pos (by omega)]
  have e3 : slotSt m ρ d n s.val 0 (lIx s) c = iprop(emp) := by
    unfold slotSt; rw [if_neg (by omega), if_neg (by show ¬ s.val + 2 < n; omega), if_neg (by show ¬ s.val + 2 < s.val + 2; omega)]
  have e4 : slotSt m ρ d n (s.val + 1) 0 (lIx s) c = slotAt m ρ d (lIx s) fullShare c := by
    unfold slotSt; rw [if_neg (by omega), if_neg (by show ¬ s.val + 2 < n; omega), if_pos (by show s.val + 2 < s.val + 1 + 2; omega)]
  simp only [e1, e2] at h1
  simp only [e3, e4] at h2
  unfold Tr dir
  iintro ⟨HC, HS, HR, HK⟩
  ihave HR := h1 $$ HR
  icases HR with ⟨⟨Hat, Hc⟩, HR⟩
  ihave HK := h2 $$ HK
  icases HK with ⟨-, HK⟩
  ihave H := (recv_step m ρ K c d s k hk) $$ [HC Hat Hc]
  · isplitl [HC]; · iexact HC
    isplitl [Hat]; · iexact Hat
    iexact Hc
  iapply (wp_wand _ _ _) $$ H
  iintro %_ ⟨HC, Hat, Hsl⟩
  isplitl [HC]; · iexact HC
  isplitl [HS]; · iexact HS
  isplitl [HR Hat]
  · iapply HR; iexact Hat
  iapply HK; iexact Hsl

/-- Learning that the next copy has left, when all are started and received. -/
theorem sent_dir (c : Dev nD) (d : Bool) (s : Fin 15) (k : ℕ) :
    Tr c iprop(core m ρ K c k ∗ dir m ρ d 15 15 s.val c) (sent d s) (fun _ => iprop(core m ρ K c k ∗ dir m ρ d 15 15 (s.val + 1) c)) := by
  have h1 := bigSep_one s (fun j => sendSt (F := F) d 15 s.val j c) (fun j => sendSt (F := F) d 15 (s.val + 1) j c) (fun j hj => by
    have : j.val ≠ s.val := fun h => hj (Fin.ext h)
    unfold sendSt; simp only [show (j.val < s.val + 1) = (j.val < s.val) from propext ⟨fun _ => by omega, fun _ => by omega⟩])
  have h2 := bigSep_one (sIx s) (fun j => slotSt m ρ d 15 15 s.val j c) (fun j => slotSt m ρ d 15 15 (s.val + 1) j c) (fun j hj => by
    have : j.val ≠ s.val := fun h => hj (Fin.ext h)
    unfold slotSt; simp only [show (j.val < s.val + 1) = (j.val < s.val) from propext ⟨fun _ => by omega, fun _ => by omega⟩])
  have e1 : sendSt (F := F) d 15 s.val s c = iprop(atPos ER (dCell d false s c) 0 ∅ 0 ∗ cred (tallyAt (dCell d false s c) () N)) := by
    unfold sendSt; rw [if_neg (by omega), if_pos s.isLt]
  have e2 : sendSt (F := F) d 15 (s.val + 1) s c = atPos ER (dCell d false s c) 1 ∅ 0 := by
    unfold sendSt; rw [if_pos (by omega)]
  have e3 : slotSt m ρ d 15 15 s.val (sIx s) c = slotAt m ρ d (sIx s) fullShare.right c := by
    unfold slotSt; rw [if_neg (by show ¬ s.val < s.val; omega), if_pos s.isLt]
  have e4 : slotSt m ρ d 15 15 (s.val + 1) (sIx s) c = slotAt m ρ d (sIx s) fullShare c := by
    unfold slotSt; rw [if_pos (by show s.val < s.val + 1; omega)]
  simp only [e1, e2] at h1
  simp only [e3, e4] at h2
  unfold Tr dir
  iintro ⟨HC, HS, HR, HK⟩
  ihave HS := h1 $$ HS
  icases HS with ⟨⟨Hat, Hc⟩, HS⟩
  ihave HK := h2 $$ HK
  icases HK with ⟨Hr, HK⟩
  ihave H := (sent_step m ρ K c d s k) $$ [HC Hat Hc]
  · isplitl [HC]; · iexact HC
    isplitl [Hat]; · iexact Hat
    iexact Hc
  iapply (wp_wand _ _ _) $$ H
  iintro %_ ⟨HC, Hat, Hl⟩
  isplitl [HC]; · iexact HC
  isplitl [HS Hat]
  · iapply HS; iexact Hat
  isplitl [HR]; · iexact HR
  iapply HK
  unfold slotAt
  iapply (owns_halves (c : Thread nD τ) (slot d (sIx s)) fullShare (cont m ρ d (sIx s) c)).2
  isplitl [Hl]; · iexact Hl
  iexact Hr

/-- The product of a received slot. -/
theorem dot_dir (c : Dev nD) (d : Bool) (k : Fin 17) (hk : 2 ≤ k.val) (n r : ℕ) (hr : k.val < r + 2) (nT nF nT' nF' : ℕ) (hn : cond d nT nF = k.val)
    (hn' : ∀ e, cond e nT' nF' = if e = d then k.val + 1 else cond e nT nF)
    (off : Fin 2 → ℕ) (h : ∀ a, off a + S128x512.size a ≤ S4096x512.size a) (hoff : off = offD d k c) :
    Tr c iprop(dir m ρ d n r 0 c ∗ work m ρ c nT nF) (dot (scale m ρ c) d k off h) (fun _ => iprop(dir m ρ d n r 0 c ∗ work m ρ c nT' nF')) := by
  have h2 := bigSep_one k (fun j => slotSt m ρ d n r 0 j c) (fun j => slotSt m ρ d n r 0 j c) (fun _ _ => rfl)
  have e : ∃ q, slotSt m ρ d n r 0 k c = slotAt m ρ d k q c := by
    unfold slotSt; rw [if_neg (by omega)]
    by_cases hkn : k.val < n
    · exact ⟨_, if_pos hkn⟩
    · exact ⟨_, (if_neg hkn).trans (if_pos hr)⟩
  obtain ⟨q, e⟩ := e
  simp only [e] at h2
  unfold Tr dir
  iintro ⟨⟨HS, HR, HK⟩, HW⟩
  ihave HK := h2 $$ HK
  icases HK with ⟨Hsl, HK⟩
  ihave H := (dot_step m ρ c d k hk q nT nF nT' nF' hn hn' off h hoff) $$ [Hsl HW]
  · isplitl [Hsl]; · iexact Hsl
    iexact HW
  iapply (wp_wand _ _ _) $$ H
  iintro %_ ⟨Hsl, HW⟩
  isplitr [HW]
  · isplitl [HS]; · iexact HS
    isplitl [HR]; · iexact HR
    iapply HK; iexact Hsl
  iexact HW

/-! ## The whole state -/

/-- Device `c` with `k` payments made, `nT`, `nF` copies started and `rT`, `rF` received forward and backward, `wT`, `wF` known to
    have left, and the products of the slots below `pT`, `pF`. -/
def st (c : Dev nD) (k nT rT wT nF rF wF pT pF : ℕ) : sProp 𝕄 :=
  iprop(core m ρ K c k ∗ dir m ρ true nT rT wT c ∗ dir m ρ false nF rF wF c ∗ work m ρ c pT pF)

/-- A step of the forward direction in the whole state, -/
theorem liftT {c : Dev nD} {A A' X X' R : sProp 𝕄} {p : KProg F PUnit} (h : Tr c iprop(A ∗ X) p (fun _ => iprop(A' ∗ X'))) :
    Tr c iprop(A ∗ X ∗ R) p (fun _ => iprop(A' ∗ X' ∗ R)) :=
  (h.frame R).conseq (by iintro ⟨HA, HX, HR⟩; isplitl [HA HX]; · (isplitl [HA]; · iexact HA); iexact HX
                         iexact HR)
    fun _ => by iintro ⟨⟨HA, HX⟩, HR⟩; isplitl [HA]; · iexact HA
                isplitl [HX]; · iexact HX
                iexact HR
/-- of the backward one, -/
theorem liftF {c : Dev nD} {A A' X X' Y R : sProp 𝕄} {p : KProg F PUnit} (h : Tr c iprop(A ∗ X) p (fun _ => iprop(A' ∗ X'))) :
    Tr c iprop(A ∗ Y ∗ X ∗ R) p (fun _ => iprop(A' ∗ Y ∗ X' ∗ R)) :=
  (liftT (R := iprop(Y ∗ R)) h).conseq (by iintro ⟨HA, HY, HX, HR⟩; isplitl [HA]; · iexact HA
                                           isplitl [HX]; · iexact HX
                                           isplitl [HY]; · iexact HY
                                           iexact HR)
    fun _ => by iintro ⟨HA, HX, HY, HR⟩; isplitl [HA]; · iexact HA
                isplitl [HY]; · iexact HY
                isplitl [HX]; · iexact HX
                iexact HR
/-- a product of the backward direction, -/
theorem liftPF {c : Dev nD} {A X X' Y R R' : sProp 𝕄} {p : KProg F PUnit} (h : Tr c iprop(X ∗ R) p (fun _ => iprop(X' ∗ R'))) :
    Tr c iprop(A ∗ Y ∗ X ∗ R) p (fun _ => iprop(A ∗ Y ∗ X' ∗ R')) :=
  (h.frame iprop(A ∗ Y)).conseq (by iintro ⟨HA, HY, HX, HR⟩; isplitl [HX HR]; · (isplitl [HX]; · iexact HX); iexact HR
                                    isplitl [HA]; · iexact HA
                                    iexact HY)
    fun _ => by iintro ⟨⟨HX, HR⟩, HA, HY⟩; isplitl [HA]; · iexact HA
                isplitl [HY]; · iexact HY
                isplitl [HX]; · iexact HX
                iexact HR
/-- and of the forward one. -/
theorem liftPT {c : Dev nD} {A X X' Y R R' : sProp 𝕄} {p : KProg F PUnit} (h : Tr c iprop(X ∗ R) p (fun _ => iprop(X' ∗ R'))) :
    Tr c iprop(A ∗ X ∗ Y ∗ R) p (fun _ => iprop(A ∗ X' ∗ Y ∗ R')) :=
  (liftPF (A := A) (Y := Y) h).conseq (by iintro ⟨HA, HX, HY, HR⟩; isplitl [HA]; · iexact HA
                                          isplitl [HY]; · iexact HY
                                          isplitl [HX]; · iexact HX
                                          iexact HR)
    fun _ => by iintro ⟨HA, HY, HX, HR⟩; isplitl [HA]; · iexact HA
                isplitl [HX]; · iexact HX
                isplitl [HY]; · iexact HY
                iexact HR

/-- Both directions' products of a round. -/
theorem dots_st (c : Dev nD) (s : Fin 14) (k nT rT nF rF : ℕ) (hT : s.val < rT) (hF : s.val < rF) :
    Tr c (st m ρ K c k nT rT 0 nF rF 0 (s.val + 2) (s.val + 2)) (dots (scale m ρ c) c s)
      (fun _ => st m ρ K c k nT rT 0 nF rF 0 (s.val + 3) (s.val + 3)) := by
  unfold dots st
  refine Tr.bind (R := fun _ => iprop(core m ρ K c k ∗ dir m ρ true nT rT 0 c ∗ dir m ρ false nF rF 0 c ∗ work m ρ c (s.val + 3) (s.val + 2))) ?_ fun _ => ?_
  · exact liftPT (dot_dir m ρ c true ⟨s.val + 2, by omega⟩ (by show 2 ≤ s.val + 2; omega) nT rT (by show s.val + 2 < rT + 2; omega) _ _ _ _ rfl
      (fun e => by cases e <;> rfl) _ _ (offF_eq c s))
  · exact liftPF (dot_dir m ρ c false ⟨s.val + 2, by omega⟩ (by show 2 ≤ s.val + 2; omega) nF rF (by show s.val + 2 < rF + 2; omega) _ _ _ _ rfl
      (fun e => by cases e <;> rfl) _ _ (offB_eq c ⟨s.val, by omega⟩))

/-- A round. -/
theorem round_st (c n p : Dev nD) (s : Fin 13) (hn : n = hop true c) (hp : p = hop false c) :
    Tr c (st m ρ K c (2 * s.val + 6) (s.val + 2) s.val 0 (s.val + 2) s.val 0 (s.val + 2) (s.val + 2)) (round (scale m ρ c) c n p s)
      (fun _ => st m ρ K c (2 * s.val + 8) (s.val + 3) (s.val + 1) 0 (s.val + 3) (s.val + 1) 0 (s.val + 3) (s.val + 3)) := by
  unfold round
  refine Tr.bind (R := fun _ => st m ρ K c (2 * s.val + 6) (s.val + 2) (s.val + 1) 0 (s.val + 2) s.val 0 (s.val + 2) (s.val + 2)) ?_ fun _ => ?_
  · exact liftT (recv_dir m ρ K c true ⟨s.val, by omega⟩ _ _ (.inl le_rfl) le_rfl)
  refine Tr.bind (R := fun _ => st m ρ K c (2 * s.val + 7) (s.val + 3) (s.val + 1) 0 (s.val + 2) s.val 0 (s.val + 2) (s.val + 2)) ?_ fun _ => ?_
  · exact liftT (send_dir m ρ K c n true hn ⟨s.val + 2, by omega⟩ (2 * s.val + 6) (s.val + 1) (by show _ = 2 + 2 * (s.val + 2) + 0; omega) (by show s.val + 2 < s.val + 1 + 2; omega))
  refine Tr.bind (R := fun _ => st m ρ K c (2 * s.val + 7) (s.val + 3) (s.val + 1) 0 (s.val + 2) (s.val + 1) 0 (s.val + 2) (s.val + 2)) ?_ fun _ => ?_
  · exact liftF (recv_dir m ρ K c false ⟨s.val, by omega⟩ _ _ (.inl (by show 2 * s.val + 6 ≤ _; omega)) le_rfl)
  refine Tr.bind (R := fun _ => st m ρ K c (2 * s.val + 8) (s.val + 3) (s.val + 1) 0 (s.val + 3) (s.val + 1) 0 (s.val + 2) (s.val + 2)) ?_ fun _ => ?_
  · exact liftF (send_dir m ρ K c p false hp ⟨s.val + 2, by omega⟩ (2 * s.val + 7) (s.val + 1) (by show _ = 2 + 2 * (s.val + 2) + 1; omega) (by show s.val + 2 < s.val + 1 + 2; omega))
  exact dots_st m ρ K c ⟨s.val, by omega⟩ _ _ _ _ _ (by show s.val < _; omega) (by show s.val < _; omega)

/-- A family of steps in order. -/
theorem inOrder_st (c : Dev nD) {n : ℕ} (f : Fin n → KProg F PUnit) (P : ℕ → sProp 𝕄) (h : ∀ s : Fin n, Tr c (P s.val) (f s) (fun _ => P (s.val + 1))) :
    Tr c (P 0) (inOrder f) (fun _ => P n) := by
  have key : ∀ (l : List (Fin n)) (a : ℕ), l.map Fin.val = List.range' a l.length →
      Tr c (P a) (l.foldr (fun s k => f s >>= fun _ => k) (pure ⟨⟩ : KProg F PUnit)) (fun _ => P (a + l.length)) := by
    intro l
    induction l with
    | nil =>
      intro a _
      show P a ⊢ wp frame (wpE (defs₀ (F := F)) 𝒱₀ (c : Thread nD τ) none) Set.univ (Prog.ret PUnit.unit : KProg F PUnit) (fun _ => P a)
      rw [wp_ret]; exact fupd_intro
    | cons s l ih =>
      intro a ha
      rw [List.map_cons, List.length_cons, List.range'_succ, List.cons.injEq] at ha
      have hs := h s
      rw [ha.1] at hs
      refine Tr.bind hs fun _ => ?_
      have := ih (a + 1) ha.2
      rw [List.length_cons, show a + (l.length + 1) = a + 1 + l.length by omega]
      exact this
  have := key (List.finRange n) 0 (by rw [List.map_coe_finRange_eq_range, List.length_finRange, List.range_eq_range'])
  rw [List.length_finRange, Nat.zero_add] at this
  exact this

end Cert.Ring

end
-- ==== Proof.Ring.Run.lean ====
/-
The body from its start to its end on one device.
-/
module

public import proofs.«01_k».proof.Proof.Ring.Body

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- A family over the seventeen slots: the first two, and the fifteen copies land in. -/
theorem slots_split (Φ : Fin 17 → sProp 𝕄) :
    bigSep Finset.univ Φ = iprop((Φ 0 ∗ Φ 1) ∗ bigSep Finset.univ fun s : Fin 15 => Φ (lIx s)) := by
  rw [bigSep_univ_equiv (finSumFinEquiv : Fin 2 ⊕ Fin 15 ≃ Fin 17), bigSep_univ_sum, bigSep_fin_two]
  have h : ∀ s : Fin 15, (finSumFinEquiv (Sum.inr s : Fin 2 ⊕ Fin 15) : Fin 17) = lIx s := by decide
  simp only [h]
  rfl

/-- What a direction starts with. -/
def dirIn (d : Bool) (c : Dev nD) : sProp 𝕄 :=
  iprop((bigSep Finset.univ fun s => iprop(atPos ER (dCell d false s c) 0 ∅ 0 ∗ payToks (F := F) d s c))
    ∗ (bigSep Finset.univ fun s => recvSt (F := F) d 0 s c) ∗ bigSep Finset.univ fun k => slotAny (F := F) d k c)

/-- The state before the body, -/
def bodyIn (c : Dev nD) : sProp 𝕄 :=
  iprop(core m ρ K c 0 ∗ (atPos ER (barCell c) 0 ∅ 0 ∗ cred (tallyAt (barCell c) () 2))
    ∗ (dutyTok ER (barCell (hop (!true) c)) 0 true ∗ dutyTok ER (barCell (hop (!false) c)) 0 false)
    ∗ dirIn (F := F) true c ∗ dirIn (F := F) false c ∗ inputs m ρ c ∗ (∃ f, buf c cc0_scratch2 f) ∗ ∃ f, buf c cc0_stg4_0 f)
/-- and after it. -/
def bodyOut (c : Dev nD) : sProp 𝕄 :=
  iprop(st m ρ K c 32 15 15 15 15 15 15 17 17 ∗ inputs m ρ c ∗ atPos ER (barCell c) 1 ∅ 0)

/-- A direction ready to send: its duties, the receivers' slots, its receive cells, its first two slots. -/
theorem dir_start (d : Bool) (c : Dev nD) :
    iprop((bigSep Finset.univ fun s => iprop(atPos ER (dCell d false s c) 0 ∅ 0 ∗ payToks (F := F) d s c))
      ∗ barPay (F := F) d c ∗ (bigSep Finset.univ fun s => recvSt (F := F) d 0 s c)
      ∗ (slotAt m ρ d 0 fullShare c ∗ slotAt m ρ d 1 fullShare c)) ⊢ dir m ρ d 0 0 0 c := by
  have e : (bigSep Finset.univ fun k => slotSt m ρ d 0 0 0 k c) = iprop((slotAt m ρ d 0 fullShare c ∗ slotAt m ρ d 1 fullShare c) ∗ emp) := by
    rw [slots_split]
    have h : (fun s : Fin 15 => slotSt m ρ d 0 0 0 (lIx s) c) = fun _ => iprop(emp) := by
      funext s; unfold slotSt; rw [if_neg (Nat.not_lt_zero _), if_neg (Nat.not_lt_zero _), if_neg (by show ¬ s.val + 2 < 0 + 2; omega)]
    rw [h, show (bigSep Finset.univ fun _ : Fin 15 => (iprop(emp) : sProp 𝕄)) = iprop(emp) from bigSep_emp_const _]
    rfl
  have e' : (bigSep Finset.univ fun s => sendSt (F := F) d 0 0 s c)
      = iprop((bigSep Finset.univ fun s => iprop(atPos ER (dCell d false s c) 0 ∅ 0 ∗ payToks (F := F) d s c)) ∗ barPay (F := F) d c) := by
    unfold barPay
    rw [← bigSep_sep']
    refine bigSep_congr fun s _ => ?_
    unfold sendSt; rw [if_neg (Nat.not_lt_zero _), if_neg (Nat.not_lt_zero _)]
    exact (equiv_iff.mp ⟨Idealize.SL.BI.sep_assoc, Idealize.SL.BI.sep_assoc'⟩).symm
  unfold dir
  rw [e, e']
  iintro ⟨H1, H2, H3, H4⟩
  isplitl [H1 H2]
  · isplitl [H1]; · iexact H1
    iexact H2
  isplitl [H3]; · iexact H3
  isplitl [H4]; · iexact H4
  iempintro

/-- The device's own number. -/
theorem deviceId_step (c : Dev nD) (P : sProp 𝕄) : Tr c P (Prog.lift .deviceId) (fun x => iprop(⌜x = c⌝ ∗ P)) := by
  unfold Tr
  iintro H
  simp only [Prog.lift, wp_deviceId, wp_ret]
  imodintro
  isplitr; · ipureintro; trivial
  iexact H

/-- The neighbours the kernel computes. -/
theorem fwd_of (c : Dev nD) {n : ℕ} (h : n < nD) (e : n = (c.val + 1) % 16) : (⟨n, h⟩ : Dev nD) = hop true c := Fin.ext e
theorem bwd_of (c : Dev nD) {n : ℕ} (h : n < nD) (e : n = (c.val + 15) % 16) : (⟨n, h⟩ : Dev nD) = hop false c := Fin.ext e

/-- The last two copies' products and the waits for the own copies to have left. -/
theorem tail_st (c : Dev nD) :
    Tr c (st m ρ K c 32 15 13 0 15 13 0 15 15)
      (do recv true 13; recv false 13; dots (scale m ρ c) c 13; recv true 14; dot (scale m ρ c) true 16 (k0_off4 c) (k0_off4_inb c)
          recv false 14; dot (scale m ρ c) false 16 (offB c 14) (k0_off3_inb c 14); inOrder (sent true); inOrder (sent false))
      (fun _ => st m ρ K c 32 15 15 15 15 15 15 17 17) := by
  refine Tr.bind (R := fun _ => st m ρ K c 32 15 14 0 15 13 0 15 15) (liftT (recv_dir m ρ K c true 13 32 15 (.inr le_rfl) (by decide))) fun _ => ?_
  refine Tr.bind (R := fun _ => st m ρ K c 32 15 14 0 15 14 0 15 15) (liftF (recv_dir m ρ K c false 13 32 15 (.inr le_rfl) (by decide))) fun _ => ?_
  refine Tr.bind (R := fun _ => st m ρ K c 32 15 14 0 15 14 0 16 16) (dots_st m ρ K c 13 32 15 14 15 14 (by decide) (by decide)) fun _ => ?_
  refine Tr.bind (R := fun _ => st m ρ K c 32 15 15 0 15 14 0 16 16) (liftT (recv_dir m ρ K c true 14 32 15 (.inr le_rfl) (by decide))) fun _ => ?_
  refine Tr.bind (R := fun _ => st m ρ K c 32 15 15 0 15 14 0 17 16)
    (liftPT (dot_dir m ρ c true 16 (by decide) 15 15 (by decide) 16 16 17 16 rfl (fun e => by cases e <;> rfl) _ _ (off4_eq c))) fun _ => ?_
  refine Tr.bind (R := fun _ => st m ρ K c 32 15 15 0 15 15 0 17 16) (liftF (recv_dir m ρ K c false 14 32 15 (.inr le_rfl) (by decide))) fun _ => ?_
  refine Tr.bind (R := fun _ => st m ρ K c 32 15 15 0 15 15 0 17 17)
    (liftPF (dot_dir m ρ c false 16 (by decide) 15 15 (by decide) 17 16 17 17 rfl (fun e => by cases e <;> rfl) _ _ (offB_eq c 14))) fun _ => ?_
  refine Tr.bind (R := fun _ => st m ρ K c 32 15 15 15 15 15 0 17 17) ?_ fun _ => ?_
  · exact inOrder_st c (sent true) (fun w => st m ρ K c 32 15 15 w 15 15 0 17 17) fun s => liftT (sent_dir m ρ K c true s 32)
  · exact inOrder_st c (sent false) (fun w => st m ρ K c 32 15 15 15 15 15 w 17 17) fun s => liftF (sent_dir m ρ K c false s 32)

/-- The first two copies either way. -/
theorem first_st (c : Dev nD) {n₁ p₁ n₂ p₂ : Dev nD} (hn₁ : n₁ = hop true c) (hp₁ : p₁ = hop false c) (hn₂ : n₂ = hop true c) (hp₂ : p₂ = hop false c)
    {k : KProg F PUnit} {Q : PUnit → sProp 𝕄} (hk : Tr c (st m ρ K c 6 2 0 0 2 0 0 2 2) k Q) :
    Tr c (st m ρ K c 2 0 0 0 0 0 0 2 2) (do send true n₁ 0; send false p₁ 0; send true n₂ 1; send false p₂ 1; k) Q := by
  refine Tr.bind (R := fun _ => st m ρ K c 3 1 0 0 0 0 0 2 2) (liftT (send_dir m ρ K c n₁ true hn₁ 0 2 0 rfl (by decide))) fun _ => ?_
  refine Tr.bind (R := fun _ => st m ρ K c 4 1 0 0 1 0 0 2 2) (liftF (send_dir m ρ K c p₁ false hp₁ 0 3 0 rfl (by decide))) fun _ => ?_
  refine Tr.bind (R := fun _ => st m ρ K c 5 2 0 0 1 0 0 2 2) (liftT (send_dir m ρ K c n₂ true hn₂ 1 4 0 rfl (by decide))) fun _ => ?_
  refine Tr.bind (R := fun _ => st m ρ K c 6 2 0 0 2 0 0 2 2) (liftF (send_dir m ρ K c p₂ false hp₂ 1 5 0 rfl (by decide))) fun _ => hk

/-- What is known holds. -/
theorem Tr.pure {α : Type} {c : Dev nD} {φ : Prop} {P : sProp 𝕄} {p : KProg F α} {Q : α → sProp 𝕄} (h : φ → Tr c P p Q) :
    Tr c iprop(⌜φ⌝ ∗ P) p Q := by
  unfold Tr
  iintro ⟨%hφ, H⟩
  iapply (h hφ); iexact H

/-- A direction before the handshake, its first two slots aside. -/
def dirLand (d : Bool) (c : Dev nD) : sProp 𝕄 :=
  iprop((bigSep Finset.univ fun s => iprop(atPos ER (dCell d false s c) 0 ∅ 0 ∗ payToks (F := F) d s c))
    ∗ (bigSep Finset.univ fun s => recvSt (F := F) d 0 s c) ∗ bigSep Finset.univ fun s : Fin 15 => slotAny (F := F) d (lIx s) c)

/-- What the opening leaves alone. -/
def aside (c : Dev nD) : sProp 𝕄 :=
  iprop(core m ρ K c 0 ∗ (atPos ER (barCell c) 0 ∅ 0 ∗ cred (tallyAt (barCell c) () 2))
    ∗ (dutyTok ER (barCell (hop (!true) c)) 0 true ∗ dutyTok ER (barCell (hop (!false) c)) 0 false)
    ∗ dirLand (F := F) true c ∗ dirLand (F := F) false c)

/-- A direction's slots: the first two, and those copies land in. -/
theorem dirIn_split (d : Bool) (c : Dev nD) :
    dirIn (F := F) d c ⊢ iprop((slotAny (F := F) d 0 c ∗ slotAny (F := F) d 1 c) ∗ dirLand (F := F) d c) := by
  unfold dirIn dirLand
  rw [slots_split]
  iintro ⟨H1, H2, H3, H4⟩
  isplitl [H3]; · iexact H3
  isplitl [H1]; · iexact H1
  isplitl [H2]; · iexact H2
  iexact H4

/-- What the body starts with is what the opening needs and the rest. -/
theorem bodyIn_split (c : Dev nD) : bodyIn m ρ K c ⊢ iprop(openPre m ρ c ∗ aside m ρ K c) := by
  unfold bodyIn openPre aside
  iintro ⟨HC, HB, HT, H1, H2, HI, HW, HO⟩
  ihave H1 := (dirIn_split true c) $$ H1
  ihave H2 := (dirIn_split false c) $$ H2
  icases H1 with ⟨H1, H1'⟩
  icases H2 with ⟨H2, H2'⟩
  isplitr [HC HB HT H1' H2']
  · isplitl [HI]; · iexact HI
    isplitl [H1]; · iexact H1
    isplitl [H2]; · iexact H2
    isplitl [HW]; · iexact HW
    iexact HO
  isplitl [HC]; · iexact HC
  isplitl [HB]; · iexact HB
  isplitl [HT]; · iexact HT
  isplitl [H1']; · iexact H1'
  iexact H2'

/-- What stays aside from the handshake on. -/
def kept (c : Dev nD) : sProp 𝕄 := iprop(inputs m ρ c ∗ atPos ER (barCell c) 1 ∅ 0)

/-- The handshake with both neighbours: the own landing slots against theirs. -/
theorem handshake (c : Dev nD) {n p : Dev nD} (hp : p = hop false c) (hn : n = hop true c) {k : KProg F PUnit} {Q : PUnit → sProp 𝕄}
    (hk : Tr c iprop(st m ρ K c 2 0 0 0 0 0 0 2 2 ∗ kept m ρ c) k Q) :
    Tr c iprop(openPost m ρ c ∗ aside m ρ K c) (do semSignalWord p barS 1#32; semSignalWord n barS 1#32; semWaitWord barS 2#32; k) Q := by
  unfold Tr openPost aside dirLand
  simp only [wp_bind]
  iintro ⟨⟨HI, HT2, HF2, HW⟩, HC, ⟨Hat, Hcr⟩, ⟨HtT, HtF⟩, ⟨HT, HTr, HTs⟩, HF, HFr, HFs⟩
  ihave H := (signal_step m ρ K c p true hp 0 rfl) $$ [HC HtT HTs]
  · isplitl [HC]; · iexact HC
    isplitl [HtT]; · iexact HtT
    iexact HTs
  iapply (wp_wand _ _ _) $$ H
  iintro %_ HC
  ihave H := (signal_step m ρ K c n false hn 1 rfl) $$ [HC HtF HFs]
  · isplitl [HC]; · iexact HC
    isplitl [HtF]; · iexact HtF
    iexact HFs
  iapply (wp_wand _ _ _) $$ H
  iintro %_ HC
  ihave H := (barrier_step m ρ K c) $$ [HC Hat Hcr]
  · isplitl [HC]; · iexact HC
    isplitl [Hat]; · iexact Hat
    iexact Hcr
  iapply (wp_wand _ _ _) $$ H
  iintro %_ ⟨HC, Hat, HpT, HpF⟩
  iapply hk
  unfold st kept
  isplitr [HI Hat]
  · isplitl [HC]; · iexact HC
    isplitl [HT HTr HT2 HpT]
    · iapply (dir_start m ρ true c)
      isplitl [HT]; · iexact HT
      isplitl [HpT]; · iexact HpT
      isplitl [HTr]; · iexact HTr
      iexact HT2
    isplitl [HF HFr HF2 HpF]
    · iapply (dir_start m ρ false c)
      isplitl [HF]; · iexact HF
      isplitl [HpF]; · iexact HpF
      isplitl [HFr]; · iexact HFr
      iexact HF2
    iexact HW
  isplitl [HI]; · iexact HI
  iexact Hat

/-- A step in front of what is known to run. -/
theorem Tr.next {c : Dev nD} {P P' : sProp 𝕄} {p k : KProg F PUnit} {Q : PUnit → sProp 𝕄} (h : Tr c P p (fun _ => P')) (hk : Tr c P' k Q) :
    Tr c P (p >>= fun _ => k) Q := h.bind fun _ => hk

/-- THE BODY on device `c`. -/
theorem body_run (c : Dev nD) : Tr c (bodyIn m ρ K c) body (fun _ => bodyOut m ρ K c) := by
  unfold body
  refine Tr.bind (deviceId_step c _) fun x => Tr.pure fun hx => ?_
  subst hx
  refine Tr.bind (R := fun v => iprop(⌜v = scale m ρ x⌝ ∗ (openPost m ρ x ∗ aside m ρ K x)))
    (((opening_step m ρ x).frame (aside m ρ K x)).conseq (bodyIn_split m ρ K x) fun v => by
      iintro ⟨⟨%hv, H1⟩, H2⟩
      isplitr; · ipureintro; exact hv
      isplitl [H1]; · iexact H1
      iexact H2) fun v => Tr.pure fun hv => ?_
  subst hv
  refine handshake m ρ K x (bwd_of x _ (k0_dev1_eq x)) (fwd_of x _ (k0_dev2_eq x)) ?_
  refine Tr.conseq (Tr.frame (P' := fun _ => st m ρ K x 32 15 15 15 15 15 15 17 17) ?_ (kept m ρ x)) .rfl fun _ => .rfl
  refine first_st m ρ K x (fwd_of x _ (k0_dev3_eq x)) (bwd_of x _ (k0_dev4_eq x)) (fwd_of x _ (k0_dev5_eq x)) (bwd_of x _ (k0_dev6_eq x)) ?_
  refine (round_st m ρ K x _ _ 0 (fwd_of x _ (k0_dev7_eq x)) (bwd_of x _ (k0_dev8_eq x))).next ?_
  refine (round_st m ρ K x _ _ 1 (fwd_of x _ (k0_dev9_eq x)) (bwd_of x _ (k0_dev10_eq x))).next ?_
  refine (round_st m ρ K x _ _ 2 (fwd_of x _ (k0_dev11_eq x)) (bwd_of x _ (k0_dev12_eq x))).next ?_
  refine (round_st m ρ K x _ _ 3 (fwd_of x _ (k0_dev13_eq x)) (bwd_of x _ (k0_dev14_eq x))).next ?_
  refine (round_st m ρ K x _ _ 4 (fwd_of x _ (k0_dev15_eq x)) (bwd_of x _ (k0_dev16_eq x))).next ?_
  refine (round_st m ρ K x _ _ 5 (fwd_of x _ (k0_dev17_eq x)) (bwd_of x _ (k0_dev18_eq x))).next ?_
  refine (round_st m ρ K x _ _ 6 (fwd_of x _ (k0_dev19_eq x)) (bwd_of x _ (k0_dev20_eq x))).next ?_
  refine (round_st m ρ K x _ _ 7 (fwd_of x _ (k0_dev21_eq x)) (bwd_of x _ (k0_dev22_eq x))).next ?_
  refine (round_st m ρ K x _ _ 8 (fwd_of x _ (k0_dev23_eq x)) (bwd_of x _ (k0_dev24_eq x))).next ?_
  refine (round_st m ρ K x _ _ 9 (fwd_of x _ (k0_dev25_eq x)) (bwd_of x _ (k0_dev26_eq x))).next ?_
  refine (round_st m ρ K x _ _ 10 (fwd_of x _ (k0_dev27_eq x)) (bwd_of x _ (k0_dev28_eq x))).next ?_
  refine (round_st m ρ K x _ _ 11 (fwd_of x _ (k0_dev29_eq x)) (bwd_of x _ (k0_dev30_eq x))).next ?_
  refine (round_st m ρ K x _ _ 12 (fwd_of x _ (k0_dev31_eq x)) (bwd_of x _ (k0_dev32_eq x))).next ?_
  exact tail_st m ρ K x

end Cert.Ring

end
-- ==== Proof.Ring.Obligation.lean ====
/-
The body as the pipeline calls it: chunk buffers cut into slots and put together again, the output's final contents, and the
obligation of the body on every device.
-/
module

public import proofs.«01_k».proof.Proof.Ring.Run

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## A chunk buffer and its slots -/

/-- The element at row `a` and column `b` of a matrix. -/
def at2 {n k : ℕ} (a b : ℕ) (ha : a < n) (hb : b < k) : (⟨2, ![n, k]⟩ : Shape).Idx := fun x =>
  match x with
  | ⟨0, _⟩ => ⟨a, ha⟩
  | ⟨1, _⟩ => ⟨b, hb⟩

/-- An element is told by its row and its column. -/
theorem idx2_ext {n k : ℕ} {i j : (⟨2, ![n, k]⟩ : Shape).Idx} (h0 : (i 0).val = (j 0).val) (h1 : (i 1).val = (j 1).val) : i = j :=
  funext fun a => by
    fin_cases a
    · exact Fin.ext h0
    · exact Fin.ext h1

theorem slot_row (k : Fin 17) (y : (slotRect k).shape.Idx) : ((slotRect k).emb y 0).val = 128 * k.val + (y 0).val := by
  show 128 * k.val + 1 * (y 0).val = _; omega
theorem slot_col (k : Fin 17) (y : (slotRect k).shape.Idx) : ((slotRect k).emb y 1).val = (y 1).val := by
  show 0 + 1 * (y 1).val = _; omega

theorem slots_disjoint (k k' : Fin 17) (h : k ≠ k') : Disjoint (slotRect k).set (slotRect k').set := by
  rw [← Rect.map_emb_univ, ← Rect.map_emb_univ, Finset.disjoint_left]
  intro i hi hi'
  obtain ⟨y, -, rfl⟩ := Finset.mem_map.mp hi
  obtain ⟨z, -, hz⟩ := Finset.mem_map.mp hi'
  have e : ((slotRect k').emb z 0).val = ((slotRect k).emb y 0).val := congrArg (fun i : S2176x4096.Idx => (i 0).val) hz
  rw [slot_row, slot_row] at e
  have h1 : (y 0).val < 128 := (y 0).isLt
  have h2 : (z 0).val < 128 := (z 0).isLt
  exact h (Fin.ext (by omega))

/-- The slot an element of a chunk buffer lies in, and where. -/
def slotOf (i : S2176x4096.Idx) : Fin 17 := ⟨(i 0).val / 128, by have : (i 0).val < 2176 := (i 0).isLt; omega⟩
def inSlot (i : S2176x4096.Idx) : S128x4096.Idx := at2 ((i 0).val % 128) (i 1).val (Nat.mod_lt _ (by decide)) (i 1).isLt
theorem slot_emb (i : S2176x4096.Idx) : (slotRect (slotOf i)).emb (inSlot i) = i :=
  idx2_ext ((slot_row _ _).trans (Nat.div_add_mod _ _)) (slot_col _ _)
theorem slotOf_emb (k : Fin 17) (y : S128x4096.Idx) : slotOf ((slotRect k).emb y) = k :=
  Fin.ext (by
    show ((slotRect k).emb y 0).val / 128 = k.val
    have h1 : (y 0).val < 128 := (y 0).isLt
    rw [slot_row]; omega)
theorem inSlot_emb (k : Fin 17) (y : S128x4096.Idx) : inSlot ((slotRect k).emb y) = y :=
  idx2_ext (by
    show ((slotRect k).emb y 0).val % 128 = (y 0).val
    have h1 : (y 0).val < 128 := (y 0).isLt
    rw [slot_row]; omega) (slot_col k y)

theorem slots_cover : (Finset.univ : Finset (Fin 17)).biUnion (fun k => (slotRect k).set) = Finset.univ := by
  refine Finset.eq_univ_of_forall fun i => Finset.mem_biUnion.mpr ⟨slotOf i, Finset.mem_univ _, ?_⟩
  rw [← Rect.map_emb_univ]
  exact Finset.mem_map.mpr ⟨inSlot i, Finset.mem_univ _, slot_emb i⟩

/-- A chunk buffer at any contents is its slots, -/
theorem cut (d : Bool) (c : Dev nD) (f : (scr d).view.ty.Contents (Elt F)) :
    ((scr d).view.loc (c : Thread nD τ) ↦[(scr d).view.set]{fullShare} f) ⊢ (bigSep Finset.univ fun k => slotAny (F := F) d k c : sProp 𝕄) := by
  rw [pointsTo_rects (c : Thread nD τ) (scr d) fullShare slotRect (fun _ _ => rfl) slots_disjoint slots_cover f]
  refine bigSep_mono fun k _ => ?_
  unfold slotAny
  refine exists_intro (Φ := fun X => owns (c : Thread nD τ) (slot d k) fullShare X) _
/-- and filled slots make it up again. -/
theorem join (d : Bool) (c : Dev nD) :
    (bigSep Finset.univ fun k => slotAt m ρ d k fullShare c) ⊢ (iprop(∃ f, (scr d).view.loc (c : Thread nD τ) ↦[(scr d).view.set]{fullShare} f) : sProp 𝕄) := by
  have h := owns_of_rects (Ix := Unit) (Name := ℕ) (U := UU) (Lvl := ℕ) (c : Thread nD τ) (scr d) fullShare slotRect (fun _ _ => rfl) slots_disjoint slots_cover
    (fun i => cont m ρ d (slotOf i) c (inSlot i))
  have e : ∀ k, (fun y : (slotRect k).shape.Idx => cont m ρ d (slotOf ((slotRect k).emb y)) c (inSlot ((slotRect k).emb y))) = cont m ρ d k c :=
    fun k => funext fun y => by rw [slotOf_emb, inSlot_emb]
  simp only [e] at h
  refine (show _ ⊢ _ from h).trans ?_
  unfold owns
  iintro ⟨%f, -, H⟩
  iexists f; iexact H

/-! ## The output -/

/-- The output's final contents on device `c`: its own rows' product, and every other device's chunks'. -/
def outT (c : Dev nD) : (cc0_stg4_0 : Ref sig .tc).ty.Contents (Elt F) := fun i =>
  if (i 0).val / 256 = c.val then ownProd m ρ c (at2 ((i 0).val % 256) (i 1).val (Nat.mod_lt _ (by decide)) (i 1).isLt)
  else k0_pay10 (scale m ρ c) (half (decide ((i 0).val / 128 % 2 = 1)) (xstg m ρ ⟨(i 0).val / 256, by have : (i 0).val < 4096 := (i 0).isLt; show _ < 16; omega⟩))
    (wcopy m ρ c) (at2 ((i 0).val % 128) (i 1).val (Nat.mod_lt _ (by decide)) (i 1).isLt)

/-- With every product written the output is that. -/
theorem OutOk.all (c : Dev nD) (f : (cc0_stg4_0 : Ref sig .tc).ty.Contents (Elt F)) (h : OutOk m ρ c 17 17 f) : f = outT m ρ c := by
  funext i
  have hi : (i 0).val < 4096 := (i 0).isLt
  unfold outT
  split
  · next hc =>
    rw [← h.1]
    refine congrArg f (idx2_ext ?_ ?_)
    · show _ = k0_off1 c 0 + 1 * ((i 0).val % 256)
      have h1 : k0_off1 c 0 = 256 * c.val := by rw [k0_off1_eq]; rfl
      omega
    · show _ = k0_off1 c 1 + 1 * (i 1).val
      have h1 : k0_off1 c 1 = 0 := by rw [k0_off1_eq]; rfl
      omega
  · next hc =>
    obtain ⟨d, k, hk, hb⟩ := rowBlk_surj c ⟨(i 0).val / 128, by omega⟩ (by show (i 0).val / 128 / 2 ≠ _; omega)
    have hb : rowBlk d k c = (i 0).val / 128 := hb
    have ho : orig d k c = (⟨(i 0).val / 256, by show _ < 16; omega⟩ : Dev nD) := Fin.ext (by
      show (orig d k c).val = (i 0).val / 256
      unfold rowBlk at hb; cases hh : hlf d k <;> rw [hh] at hb <;> simp only [cond] at hb <;> omega)
    have hl : hlf d k = decide ((i 0).val / 128 % 2 = 1) := by
      unfold rowBlk at hb
      cases hh : hlf d k <;> rw [hh] at hb <;> simp only [cond] at hb
      · exact (decide_eq_false (by omega)).symm
      · exact (decide_eq_true (by omega)).symm
    have hp := h.2 d k hk (by cases d <;> exact k.isLt) (at2 ((i 0).val % 128) (i 1).val (Nat.mod_lt _ (by decide)) (i 1).isLt)
    unfold prod cont at hp
    rw [ho, hl] at hp
    rw [← hp]
    refine congrArg f (idx2_ext ?_ ?_)
    · show _ = 128 * rowBlk d k c + 1 * ((i 0).val % 128)
      omega
    · show _ = 0 + 1 * (i 1).val
      omega

/-! ## The pipeline's data -/

/-- What a device starts with: the records, its positions, its credit, the duties it pays. -/
def ghost (c : Dev nD) : sProp 𝕄 :=
  iprop(records m ρ K ∗ atPos ER (barCell c) 0 ∅ 0
    ∗ (dutyTok ER (barCell (hop (!true) c)) 0 true ∗ dutyTok ER (barCell (hop (!false) c)) 0 false)
    ∗ bigSep Finset.univ fun ds : Bool × Fin 15 =>
        iprop((atPos ER (dCell ds.1 false ds.2 c) 0 ∅ 0 ∗ payToks (F := F) ds.1 ds.2 c) ∗ atPos ER (dCell ds.1 true ds.2 c) 0 ∅ 0))
/-- With the launch's credit and the levels. -/
def start (c : Dev nD) : sProp 𝕄 :=
  iprop((∃ K, ghost m ρ K c) ∗ cred (tallyAt (barCell c) () 2)
    ∗ (bigSep Finset.univ fun ds : Bool × Fin 15 => cred (tallyAt (dCell ds.1 true ds.2 c) () N)) ∗ levAts L lv)

/-- The scratch buffers, at whatever contents. -/
def scratch (c : Dev nD) : sProp 𝕄 :=
  iprop((∃ f, buf (F := F) c cc0_scratch0 f) ∗ (∃ f, buf (F := F) c cc0_scratch1 f) ∗ ∃ f, buf (F := F) c cc0_scratch2 f)

/-- Before the point, -/
def Φ₀ (c : Dev nD) : sProp 𝕄 := iprop(start m ρ c ∗ scratch (F := F) c)
/-- and after it: every cell of the ring closed, its counter at zero. -/
def Φ₁ (c : Dev nD) : sProp 𝕄 :=
  iprop(semVal (barCell c) 0 ∗ (bigSep Finset.univ fun x : OI => semVal (dCell x.1 x.2.1 x.2.2 c) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outT m ρ c
  Φ t := match t with
    | ⟨0, _⟩ => Φ₀ m ρ c
    | ⟨_ + 1, _⟩ => Φ₁ (F := F) c
  q _ := fullShare
  owed t := match t with
    | ⟨0, _⟩ => rem c 0
    | ⟨_ + 1, _⟩ => 0

/-- A whole staging buffer owned is its points-to. -/
theorem own_whole (c : Dev nD) (b : Ref sig .tc) (X : b.ty.Contents (Elt F)) :
    (owns (Ix := Unit) (Name := ℕ) (U := UU) (Lvl := ℕ) (c : Thread nD τ) (Memref.whole b) fullShare X : sProp 𝕄) = buf c b X :=
  owns_whole _ _ _ _

/-! ## Into the body and out of it -/

/-- The families of both directions, one by one. -/
theorem two_dirs (Φ : Bool × Fin 15 → sProp 𝕄) :
    bigSep Finset.univ Φ = iprop((bigSep Finset.univ fun s => Φ (true, s)) ∗ bigSep Finset.univ fun s => Φ (false, s)) := by
  rw [bigSep_univ_prod, bigSep_univ_eq_bigSepL [true, false] (by decide) (by decide), bigSepL_cons_cons, bigSepL_singleton]
  rfl

/-- A direction's part of what the device starts with. -/
theorem dirIn_intro (d : Bool) (c : Dev nD) (f : (scr d).view.ty.Contents (Elt F)) :
    iprop((bigSep Finset.univ fun s : Fin 15 => iprop((atPos ER (dCell d false s c) 0 ∅ 0 ∗ payToks (F := F) d s c) ∗ atPos ER (dCell d true s c) 0 ∅ 0))
      ∗ (bigSep Finset.univ fun s : Fin 15 => cred (tallyAt (dCell d true s c) () N))
      ∗ ((scr d).view.loc (c : Thread nD τ) ↦[(scr d).view.set]{fullShare} f)) ⊢ dirIn (F := F) d c := by
  have e : (bigSep Finset.univ fun s => recvSt (F := F) d 0 s c)
      = iprop((bigSep Finset.univ fun s : Fin 15 => atPos ER (dCell d true s c) 0 ∅ 0) ∗ bigSep Finset.univ fun s : Fin 15 => cred (tallyAt (dCell d true s c) () N)) := by
    rw [← bigSep_sep']
    exact bigSep_congr fun s _ => by unfold recvSt; rw [if_neg (Nat.not_lt_zero _)]
  unfold dirIn
  rw [e, bigSep_sep']
  iintro ⟨⟨H1, H2⟩, H3, H4⟩
  isplitl [H1]; · iexact H1
  isplitl [H2 H3]
  · isplitl [H2]; · iexact H2
    iexact H3
  iapply (cut d c f); iexact H4

/-- A family of the own copy cells, past its round, closes: the counters are zero. -/
theorem close_fam (d r : Bool) (c : Dev nD) :
    iprop(records m ρ K ∗ bigSep Finset.univ fun s : Fin 15 => atPos ER (dCell d r s c) 1 ∅ 0)
      ⊢ (|={Set.univ}=> bigSep Finset.univ fun s : Fin 15 => semVal (dCell d r s c) 0 : sProp 𝕄) := by
  refine BIBase.Entails.trans (bigSep_with_persistent (R := records m ρ K) (Ψ := fun s : Fin 15 => iprop(|={Set.univ}=> semVal (dCell d r s c) 0)) fun s _ => ?_) (bigSep_fupd _ _)
  iintro ⟨HR, Hat⟩
  iapply (Rounds.cell_close ER (ringRd m ρ) (Set.mem_univ (K (c, .inr (d, r, s)))) (fun h => h) (R := 0 + 1) (duties_later m ρ (dCell d r s c)))
  isplitl [HR]; · iapply (records_inv m ρ K (c, .inr (d, r, s))); iexact HR
  iexact Hat

/-- A direction at its end: its cells closed, its chunk buffer whole. -/
theorem dir_end (d : Bool) (c : Dev nD) :
    iprop(records m ρ K ∗ dir m ρ d 15 15 15 c)
      ⊢ (|={Set.univ}=> iprop((bigSep Finset.univ fun s : Fin 15 => semVal (dCell d false s c) 0) ∗ (bigSep Finset.univ fun s : Fin 15 => semVal (dCell d true s c) 0)
          ∗ ∃ f, (scr d).view.loc (c : Thread nD τ) ↦[(scr d).view.set]{fullShare} f) : sProp 𝕄) := by
  have e1 : (bigSep Finset.univ fun s => sendSt (F := F) d 15 15 s c) = bigSep Finset.univ fun s : Fin 15 => atPos ER (dCell d false s c) 1 ∅ 0 :=
    bigSep_congr fun s _ => by unfold sendSt; rw [if_pos s.isLt]
  have e2 : (bigSep Finset.univ fun s => recvSt (F := F) d 15 s c) = bigSep Finset.univ fun s : Fin 15 => atPos ER (dCell d true s c) 1 ∅ 0 :=
    bigSep_congr fun s _ => by unfold recvSt; rw [if_pos s.isLt]
  have e3 : (bigSep Finset.univ fun k => slotSt m ρ d 15 15 15 k c) = bigSep Finset.univ fun k => slotAt m ρ d k fullShare c :=
    bigSep_congr fun k _ => by
      unfold slotSt
      by_cases hk : k.val < 15
      · rw [if_pos hk]
      · rw [if_neg hk, if_neg hk, if_pos k.isLt]
  unfold dir
  rw [e1, e2, e3]
  iintro ⟨#HR, H1, H2, H3⟩
  imod (close_fam m ρ K d false c) $$ [H1] with Hs
  · isplitr; · iexact HR
    iexact H1
  imod (close_fam m ρ K d true c) $$ [H2] with Hr
  · isplitr; · iexact HR
    iexact H2
  imodintro
  isplitl [Hs]; · iexact Hs
  isplitl [Hr]; · iexact Hr
  iapply (join m ρ d c); iexact H3

/-- The kernel's own cells, direction by direction and role by role. -/
theorem four_fams (Φ : OI → sProp 𝕄) :
    bigSep Finset.univ Φ = iprop(((bigSep Finset.univ fun s => Φ (true, true, s)) ∗ bigSep Finset.univ fun s => Φ (true, false, s))
      ∗ (bigSep Finset.univ fun s => Φ (false, true, s)) ∗ bigSep Finset.univ fun s => Φ (false, false, s)) := by
  rw [bigSep_univ_prod, bigSep_univ_eq_bigSepL [true, false] (by decide) (by decide), bigSepL_cons_cons, bigSepL_singleton, two_dirs, two_dirs]
  rfl

/-- Before the body: the pipeline's state and staged blocks. -/
def callIn (c : Dev nD) : sProp 𝕄 :=
  iprop(Φ₀ m ρ c ∗ (∃ W, owes (c : Thread nD τ) (rem c 0) W) ∗ inputs m ρ c ∗ ∃ f, buf c cc0_stg4_0 f)
/-- After it. -/
def callOut (c : Dev nD) : sProp 𝕄 :=
  iprop(Φ₁ (F := F) c ∗ (∃ W, owes (c : Thread nD τ) 0 W) ∗ inputs m ρ c ∗ buf c cc0_stg4_0 (outT m ρ c))

theorem callIn_split (c : Dev nD) : callIn m ρ c ⊢ iprop(∃ K, bodyIn m ρ K c) := by
  unfold callIn Φ₀ start ghost scratch bodyIn core
  iintro ⟨⟨⟨⟨%K, HR, Hat, Htk, HG⟩, HcB, HcR, HL⟩, ⟨%f0, H0⟩, ⟨%f1, H1⟩, H2⟩, HO, HI, Hout⟩
  ihave HG := (Entails.of_eq (two_dirs (F := F) _)) $$ HG
  ihave HcR := (Entails.of_eq (two_dirs (F := F) _)) $$ HcR
  icases HG with ⟨HGT, HGF⟩
  icases HcR with ⟨HcT, HcF⟩
  iexists K
  isplitl [HR HL HO]
  · isplitl [HR]; · iexact HR
    isplitl [HL]; · iexact HL
    iexact HO
  isplitl [Hat HcB]
  · isplitl [Hat]; · iexact Hat
    iexact HcB
  isplitl [Htk]; · iexact Htk
  isplitl [HGT HcT H0]
  · iapply (dirIn_intro true c f0)
    isplitl [HGT]; · iexact HGT
    isplitl [HcT]; · iexact HcT
    rw [(scr_whole true).set_eq_univ]; iexact H0
  isplitl [HGF HcF H1]
  · iapply (dirIn_intro false c f1)
    isplitl [HGF]; · iexact HGF
    isplitl [HcF]; · iexact HcF
    rw [(scr_whole false).set_eq_univ]; iexact H1
  isplitl [HI]; · iexact HI
  isplitl [H2]; · iexact H2
  iexact Hout

theorem bodyOut_close (c : Dev nD) : bodyOut m ρ K c ⊢ iprop(|={Set.univ}=> callOut m ρ c) := by
  unfold bodyOut st core work callOut Φ₁ scratch
  rw [rem_end, four_fams]
  iintro ⟨⟨⟨#HR, -, HO⟩, HT, HF, Hw, ⟨%f, %hf, Hout⟩⟩, HI, Hat⟩
  imod (dir_end m ρ K true c) $$ [HT] with ⟨HTs, HTr, ⟨%f0, H0⟩⟩
  · isplitr; · iexact HR
    iexact HT
  imod (dir_end m ρ K false c) $$ [HF] with ⟨HFs, HFr, ⟨%f1, H1⟩⟩
  · isplitr; · iexact HR
    iexact HF
  imod (Rounds.cell_close ER (ringRd m ρ) (Set.mem_univ (K (c, .inl ()))) (fun h => h) (R := 0 + 1) (duties_later m ρ (barCell c))) $$ [Hat] with HB
  · isplitr; · iapply (records_inv m ρ K (c, .inl ())); iexact HR
    iexact Hat
  imodintro
  have hf := OutOk.all m ρ c f hf
  subst hf
  rw [(scr_whole true).set_eq_univ, (scr_whole false).set_eq_univ]
  isplitl [HB HTs HTr HFs HFr H0 H1 Hw]
  · isplitl [HB]; · iexact HB
    isplitl [HTs HTr HFs HFr]
    · isplitl [HTs HTr]
      · isplitl [HTr]; · iexact HTr
        iexact HTs
      isplitl [HFr]; · iexact HFr
      iexact HFs
    isplitl [H0]; · iexists f0; iexact H0
    isplitl [H1]; · iexists f1; iexact H1
    iexists _; iexact Hw
  isplitl [HO]; · iexact HO
  isplitl [HI]; · iexact HI
  iexact Hout

/-- THE CALL of the body. -/
theorem call_run (c : Dev nD) : Tr c (callIn m ρ c) body (fun _ => callOut m ρ c) := by
  unfold Tr
  iintro H
  ihave H := (callIn_split m ρ c) $$ H
  icases H with ⟨%K, H⟩
  iapply (wp_fupd _ _ _)
  ihave H := (body_run m ρ K c) $$ H
  iapply (wp_wand _ _ _) $$ H
  iintro %_ H
  iapply (bodyOut_close m ρ K c); iexact H

/-! ## The obligation -/

/-- The one point of the grid. -/
abbrev p₀ : Fin cfg0.N := t0_0

/-- The state around a point: the carried assertion, what the device owes, and the five staging buffers. -/
def atPoint (X : sProp 𝕄) (t : Fin (cfg0.N + 1)) (c : Dev nD) (B : (w : Fin 5) → sProp 𝕄) : sProp 𝕄 :=
  iprop(X ∗ (dats m ρ 0 c).owesAt () t ∗ B 0 ∗ B 1 ∗ B 2 ∗ B 3 ∗ B 4)

def stagedIn (c : Dev nD) : (w : Fin 5) → sProp 𝕄
  | ⟨0, _⟩ => iprop(∃ d, buf c cc0_stg0_0 ((dats m ρ 0 c).before (0 : Fin 5) p₀ d))
  | ⟨1, _⟩ => iprop(∃ d, buf c cc0_stg1_0 ((dats m ρ 0 c).before (1 : Fin 5) p₀ d))
  | ⟨2, _⟩ => iprop(∃ d, buf c cc0_stg2_0 ((dats m ρ 0 c).before (2 : Fin 5) p₀ d))
  | ⟨3, _⟩ => iprop(∃ d, buf c cc0_stg3_0 ((dats m ρ 0 c).before (3 : Fin 5) p₀ d))
  | ⟨4, _⟩ => iprop(∃ d, buf c cc0_stg4_0 ((dats m ρ 0 c).before (4 : Fin 5) p₀ d))

def stagedOut (c : Dev nD) : (w : Fin 5) → sProp 𝕄
  | ⟨0, _⟩ => buf c cc0_stg0_0 (xstg m ρ c)
  | ⟨1, _⟩ => buf c cc0_stg1_0 (wstg m ρ c)
  | ⟨2, _⟩ => buf c cc0_stg2_0 (sxstg m ρ c)
  | ⟨3, _⟩ => buf c cc0_stg3_0 (swstg m ρ c)
  | ⟨4, _⟩ => buf c cc0_stg4_0 (outT m ρ c)

/-- Before the point the inputs' buffers hold their blocks, -/
theorem call_intro (c : Dev nD) : atPoint m ρ (Φ₀ m ρ c) p₀.castSucc c (stagedIn m ρ c) ⊢ callIn m ρ c := by
  have e0 (d) : (dats m ρ 0 c).before (0 : Fin 5) p₀ d = xstg m ρ c := by unfold Dat.before; rw [if_pos (fetch0_0 p₀)]; rfl
  have e1 (d) : (dats m ρ 0 c).before (1 : Fin 5) p₀ d = wstg m ρ c := by unfold Dat.before; rw [if_pos (fetch0_1 p₀)]; rfl
  have e2 (d) : (dats m ρ 0 c).before (2 : Fin 5) p₀ d = sxstg m ρ c := by unfold Dat.before; rw [if_pos (fetch0_2 p₀)]; rfl
  have e3 (d) : (dats m ρ 0 c).before (3 : Fin 5) p₀ d = swstg m ρ c := by unfold Dat.before; rw [if_pos (fetch0_3 p₀)]; rfl
  unfold atPoint callIn inputs Dat.owesAt Pipeline.owesWithin
  rw [show (dats m ρ 0 c).owed p₀.castSucc = rem c 0 from rfl]
  unfold stagedIn
  simp only [e0, e1, e2, e3]
  iintro ⟨HΦ, ⟨%W, %_hW, HO⟩, ⟨%_, H0⟩, ⟨%_, H1⟩, ⟨%_, H2⟩, ⟨%_, H3⟩, ⟨%_, H4⟩⟩
  isplitl [HΦ]; · iexact HΦ
  isplitl [HO]; · iexists W; iexact HO
  isplitl [H0 H1 H2 H3]
  · isplitl [H0]; · iexact H0
    isplitl [H1]; · iexact H1
    isplitl [H2]; · iexact H2
    iexact H3
  iexists _; iexact H4

/-- and after it as before, the output's the product. -/
theorem call_elim (c : Dev nD) : callOut m ρ c ⊢ atPoint m ρ (Φ₁ (F := F) c) p₀.succ c (stagedOut m ρ c) := by
  unfold atPoint callOut inputs Dat.owesAt Pipeline.owesWithin
  rw [show (dats m ρ 0 c).owed p₀.succ = 0 from rfl]
  unfold stagedOut
  iintro ⟨HΦ, ⟨%W, HO⟩, ⟨H0, H1, H2, H3⟩, H4⟩
  isplitl [HΦ]; · iexact HΦ
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  iexact H4

set_option maxRecDepth 100000 in
/-- THE OBLIGATION of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [own_whole]
  show atPoint m ρ (Φ₀ m ρ c) p₀.castSucc c (stagedIn m ρ c) ⊢ wp frame (wpE (defs₀ (F := F)) 𝒱₀ c none) Set.univ
    (cc0_body (F := F) xM (Memref.isWhole_whole _) wM (Memref.isWhole_whole _) sxM (Memref.isWhole_whole _) swM (Memref.isWhole_whole _) oM (Memref.isWhole_whole _)
      (Memref.whole cc0_scratch0) (Memref.isWhole_whole _) (Memref.whole cc0_scratch1) (Memref.isWhole_whole _) w8M (Memref.isWhole_whole _)
      cc0_scratch3 cc0_scratch4 cc0_scratch5 cc0_scratch6)
    (fun _ => atPoint m ρ (Φ₁ (F := F) c) p₀.succ c (stagedOut m ρ c))
  rw [body_eq]
  exact (call_intro m ρ c).trans ((call_run m ρ c).trans (wp_mono _ _ _ fun _ => call_elim m ρ c))

end Cert.Ring

end
-- ==== Proof.Ring.Launch.lean ====
/-
The launch: the ring's cells and tokens are funded, dealt around the devices, and the whole program runs.
-/
module

public import proofs.«01_k».proof.Proof.Ring.Obligation
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## Cells and tokens -/

theorem ownSemFacts : Pipeline.OwnSemFacts cfg0.spec osem := ⟨fun k => by revert k; decide, osem_injective, fun k w s => by revert k w s; decide⟩

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells: two of its barrier cell, one of each copy cell. -/
abbrev tokOf (x : Dev nD × (Bool ⊕ OI)) : GSem nD τ sig × ℕ × Bool :=
  match x.2 with
  | .inl b => (barCell x.1, 0, b)
  | .inr y => (kcell (x.1, .inr y), 0, false)
theorem tokOf_injective : Function.Injective tokOf := by
  rintro ⟨c, x⟩ ⟨c', x'⟩ h
  have h1 : c = c' := by
    have := congrArg (fun z : GSem nD τ sig × ℕ × Bool => z.1.1.1) h
    rcases x with b | y <;> rcases x' with b' | y' <;> exact this
  subst h1
  have h2 := congrArg (fun z : GSem nD τ sig × ℕ × Bool => z.1.2) h
  have h3 := congrArg (fun z : GSem nD τ sig × ℕ × Bool => z.2.2) h
  rcases x with b | y <;> rcases x' with b' | y'
  · have : b = b' := h3
    rw [this]
  · cases h2
  · cases h2
  · rw [osem_injective h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 := bigSep Finset.univ fun x : Bool ⊕ OI => dutyTok ER (tokOf (c, x)).1 (tokOf (c, x)).2.1 (tokOf (c, x)).2.2
/-- The positions of device `c`'s cells. -/
def spots (c : Dev nD) : sProp 𝕄 := bigSep Finset.univ fun k : CI => atPos ER (kcell (c, k)) 0 ∅ 0

/-- What the launch deals device `c`. -/
def G (c : Dev nD) : sProp 𝕄 :=
  iprop((bigSep Finset.univ fun k : CI => roundState ER (ringRd m ρ) (kcell (c, k)) 0) ∗ spots (F := F) c
    ∗ (bigSep Finset.univ fun k : CI => reached ER (kcell (c, k)) 0) ∗ toks (F := F) c)
/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  unfold G spots
  rw [bigSep_sep', bigSep_sep', bigSep_sep', ← hX fun g => roundState ER (ringRd m ρ) g 0, ← hX fun g => atPos ER g 0 ∅ 0, ← hX fun g => reached ER g 0, ← hT]
  iintro HX
  imod (Rounds.fund ER (ringRd m ρ) ringCells ringToks) $$ HX with ⟨Hst, Hr, Hat, Htok⟩
  imodintro
  isplitl [Hst]; · iexact Hst
  isplitl [Hat]; · iexact Hat
  isplitl [Hr]; · iexact Hr
  iexact Htok

/-- A family over a device's cells: its barrier cell's member and its copy cells'. -/
theorem cells_split (Φ : CI → sProp 𝕄) : bigSep Finset.univ Φ = iprop(Φ (.inl ()) ∗ bigSep Finset.univ fun x : OI => Φ (.inr x)) := by
  rw [bigSep_univ_sum, bigSep_univ_eq_bigSepL [()] (by decide) (by decide), bigSepL_singleton]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

abbrev ownSems (c : Dev nD) : sProp 𝕄 := Pipeline.ownSems0 (Ix := Unit) (Name := ℕ) (U := UU) (Lvl := ℕ) (Val := Elt F) (τ := τ) osem c

/-- Device `c`'s cells get their invariants. -/
theorem core_alloc (c : Dev nD) :
    iprop(ownSems (F := F) c ∗ unscopedSems0 c ∗ G m ρ c)
      ⊢ |={Set.univ}=> iprop((bigSep Finset.univ fun k : CI => iprop(∃ κ : ℕ, cellInv ER (ringRd m ρ) κ (kcell (c, k))))
          ∗ spots (F := F) c ∗ (bigSep Finset.univ fun k : CI => reached ER (kcell (c, k)) 0) ∗ toks (F := F) c) := by
  have hv : iprop(unscopedSems0 c ∗ ownSems (F := F) c) = (bigSep Finset.univ fun k : CI => semVal (kcell (c, k)) 0 : sProp 𝕄) := by
    rw [cells_split, unscopedSems0_eq]; rfl
  have hi : iprop((bigSep Finset.univ fun k : CI => semVal (kcell (c, k)) 0) ∗ bigSep Finset.univ fun k : CI => roundState ER (ringRd m ρ) (kcell (c, k)) 0)
      ⊢ (|={Set.univ}=> bigSep Finset.univ fun k => iprop(∃ κ : ℕ, cellInv ER (ringRd m ρ) κ (kcell (c, k))) : sProp 𝕄) := by
    rw [← bigSep_sep']
    exact (bigSep_mono fun k _ => (Rounds.body_intro ER (ringRd m ρ) (kcell (c, k))).trans inv_alloc).trans (bigSep_fupd _ _)
  unfold G
  rw [← hv] at hi
  iintro ⟨Hos, Hus, Hst, Hrest⟩
  imod hi $$ [Hos Hus Hst] with Hinv
  · isplitr [Hst]
    · isplitl [Hus]; · iexact Hus
      iexact Hos
    iexact Hst
  imodintro
  isplitl [Hinv]; · iexact Hinv
  iexact Hrest

/-! ## Dealing around the ring -/

/-- A direction as a permutation of the devices. -/
def turn (d : Bool) : Dev nD ≃ Dev nD := ⟨hop d, hop (!d), hop_hop d, hop_hop' d⟩

/-- The duties a device pays. -/
def pays (c : Dev nD) : sProp 𝕄 :=
  iprop((dutyTok ER (barCell (hop (!true) c)) 0 true ∗ dutyTok ER (barCell (hop (!false) c)) 0 false)
    ∗ bigSep Finset.univ fun ds : Bool × Fin 15 => payToks (F := F) ds.1 ds.2 c)

theorem sep_flip (P Q : sProp 𝕄) : iprop(P ∗ Q) = iprop(Q ∗ P) := by
  have h (P Q : sProp 𝕄) : iprop(P ∗ Q) ⊢ iprop(Q ∗ P) := by
    iintro ⟨H1, H2⟩
    isplitl [H2]; · iexact H2
    iexact H1
  exact BI.Entails.antisymm (h P Q) (h Q P)

/-- A family over all copy cells, by direction and number. -/
theorem roles (Φ : OI → sProp 𝕄) :
    bigSep Finset.univ Φ = bigSep Finset.univ fun ds : Bool × Fin 15 => iprop(Φ (ds.1, false, ds.2) ∗ Φ (ds.1, true, ds.2)) := by
  rw [four_fams, two_dirs, bigSep_sep', bigSep_sep']
  exact congrArg₂ _ (sep_flip _ _) (sep_flip _ _)

/-- Tokens of direction `d` over all devices may be counted at the neighbour. -/
theorem turned (d : Bool) (Φ : Dev nD → sProp 𝕄) : bigSep Finset.univ Φ = bigSep Finset.univ fun c => Φ (hop d c) :=
  bigSep_univ_equiv (turn d) Φ

/-- The order of two families over finite types may be changed. -/
theorem bigSep_swap (Φ : Dev nD → Bool × Fin 15 → sProp 𝕄) :
    (bigSep Finset.univ fun c => bigSep Finset.univ fun x => Φ c x) = bigSep Finset.univ fun x => bigSep Finset.univ fun c => Φ c x := by
  rw [← bigSep_univ_prod fun cx : Dev nD × (Bool × Fin 15) => Φ cx.1 cx.2, ← bigSep_univ_prod fun xc : (Bool × Fin 15) × Dev nD => Φ xc.2 xc.1]
  exact bigSep_univ_equiv (Equiv.prodComm _ _) _

/-- Every duty goes to the device that pays it. -/
theorem toks_around : (bigSep Finset.univ fun c : Dev nD => (toks (F := F) c : sProp 𝕄)) = bigSep Finset.univ fun c : Dev nD => pays (F := F) c := by
  have e : ∀ c : Dev nD, (toks (F := F) c : sProp 𝕄) = iprop((dutyTok ER (barCell c) 0 true ∗ dutyTok ER (barCell c) 0 false)
      ∗ (bigSep Finset.univ fun ds : Bool × Fin 15 => dutyTok ER (dCell ds.1 false ds.2 c) 0 false)
      ∗ bigSep Finset.univ fun ds : Bool × Fin 15 => dutyTok ER (dCell ds.1 true ds.2 c) 0 false) := fun c => by
    unfold toks
    rw [bigSep_univ_sum, roles, bigSep_sep', bigSep_univ_eq_bigSepL [true, false] (by decide) (by decide), bigSepL_cons_cons, bigSepL_singleton]
    rfl
  have e' : ∀ c : Dev nD, (pays (F := F) c : sProp 𝕄) = iprop((dutyTok ER (barCell (hop (!true) c)) 0 true ∗ dutyTok ER (barCell (hop (!false) c)) 0 false)
      ∗ (bigSep Finset.univ fun ds : Bool × Fin 15 => dutyTok ER (dCell ds.1 false ds.2 c) 0 false)
      ∗ bigSep Finset.univ fun ds : Bool × Fin 15 => dutyTok ER (dCell ds.1 true ds.2 (hop ds.1 c)) 0 false) := fun c => by
    unfold pays payToks
    rw [bigSep_sep']
  simp only [e, e']
  rw [bigSep_sep', bigSep_sep', bigSep_sep', bigSep_sep', bigSep_sep', bigSep_sep',
    turned (!true) fun c : Dev nD => (dutyTok ER (barCell c) 0 true : sProp 𝕄), turned (!false) fun c : Dev nD => (dutyTok ER (barCell c) 0 false : sProp 𝕄),
    bigSep_swap fun c ds => (dutyTok ER (dCell ds.1 true ds.2 c) 0 false : sProp 𝕄),
    bigSep_swap fun c ds => (dutyTok ER (dCell ds.1 true ds.2 (hop ds.1 c)) 0 false : sProp 𝕄)]
  refine congrArg _ (congrArg _ (bigSep_congr fun ds _ => ?_))
  exact turned ds.1 fun c => (dutyTok ER (dCell ds.1 true ds.2 c) 0 false : sProp 𝕄)

theorem ghost_intro (K : Dev nD × CI → ℕ) (c : Dev nD) : iprop(records m ρ K ∗ spots (F := F) c ∗ pays (F := F) c) ⊢ G' m ρ c := by
  unfold spots pays G' ghost
  rw [cells_split, roles]
  simp only [bigSep_sep']
  iintro ⟨HR, ⟨HB, HS, HV⟩, HT, HP⟩
  iexists K
  isplitl [HR]; · iexact HR
  isplitl [HB]; · iexact HB
  isplitl [HT]; · iexact HT
  isplitr [HV]
  · isplitl [HS]; · iexact HS
    iexact HP
  iexact HV

theorem regroup :
    (bigSep Finset.univ fun c : Dev nD => iprop((bigSep Finset.univ fun k : CI => iprop(∃ κ : ℕ, cellInv ER (ringRd m ρ) κ (kcell (c, k))))
          ∗ spots (F := F) c ∗ (bigSep Finset.univ fun k : CI => reached ER (kcell (c, k)) 0) ∗ toks (F := F) c) : sProp 𝕄)
      ⊢ bigSep Finset.univ (G' m ρ) := by
  rw [bigSep_sep', bigSep_sep', bigSep_sep', toks_around,
    ← bigSep_univ_prod (fun ck : Dev nD × CI => iprop(∃ κ : ℕ, cellInv ER (ringRd m ρ) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  iapply (bigSep_with_persistent (R := records m ρ K) fun c _ => ghost_intro m ρ K c)
  isplitr
  · unfold records
    isplitl; · iexact HI
    iexact HR
  · rw [bigSep_sep']
    isplitl [Hat]; · iexact Hat
    iexact Htok

/-- The global step. -/
theorem glob : (bigSep Finset.univ fun c => iprop(ownSems (F := F) c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The launch credit -/

/-- All of a device's payments: the two barrier signals and the copies. -/
theorem rem_all (c : Dev nD) : rem c 0 = due c 0 + (due c 1 + ∑ ds : Bool × Fin 15, due c (payIx ds.1 ds.2)) := by
  have h : Finset.univ.image (fun ds : Bool × Fin 15 => payIx ds.1 ds.2) = Finset.Ico 2 32 := by decide
  have hi : Function.Injective (fun ds : Bool × Fin 15 => payIx ds.1 ds.2) := by decide
  rw [rem_succ c 0 (by decide), rem_succ c 1 (by decide), add_comm, add_comm (rem c (1 + 1))]
  refine congrArg _ (congrArg _ ?_)
  unfold rem
  rw [← h, Finset.sum_image hi.injOn]

theorem creds (c : Dev nD) :
    (Pipeline.launchCred (fun d => rem d 0) c : sProp 𝕄)
      ⊢ iprop(cred (tallyAt (barCell c) () 2) ∗ bigSep Finset.univ fun ds : Bool × Fin 15 => cred (tallyAt (dCell ds.1 true ds.2 c) () N)) := by
  have one (d : Bool) (sm : SemLoc sig) (n : ℕ) : (Pipeline.launchCred (fun e => tallyAt ((hop d e : Thread nD τ), sm) () n) c : sProp 𝕄) ⊢ cred (tallyAt ((c : Thread nD τ), sm) () n) :=
    Pipeline.launchCred_tallyAt sm (hop d) (hop (!d)) (hop_hop' d) (hop_hop d) () n c
  have e2 : (tallyAt (barCell c) () 2 : CellTallies nD τ sig Unit) = tallyAt (barCell c) () 1 + tallyAt (barCell c) () 1 := by
    rw [tallyAt_add]
  simp only [rem_all, due_bar0, due_bar1]
  rw [Pipeline.launchCred_add, Pipeline.launchCred_add, Pipeline.launchCred_sum, e2]
  have hB : iprop(cred (tallyAt (barCell c) () 1) ∗ cred (tallyAt (barCell c) () 1)) ⊢ (cred (tallyAt (barCell c) () 1 + tallyAt (barCell c) () 1) : sProp 𝕄) := (cred_add _ _).2
  have hC : (bigSep Finset.univ fun ds : Bool × Fin 15 => Pipeline.launchCred (fun e => due e (payIx ds.1 ds.2)) c : sProp 𝕄)
      ⊢ bigSep Finset.univ fun ds : Bool × Fin 15 => cred (tallyAt (dCell ds.1 true ds.2 c) () N) :=
    bigSep_mono fun ds _ => by simp only [due_copy]; exact one ds.1 _ N
  iintro ⟨H0, H1, HC⟩
  ihave H0 := (one false (.reg barS) 1) $$ H0
  ihave H1 := (one true (.reg barS) 1) $$ H1
  isplitl [H0 H1]
  · iapply hB
    isplitl [H0]; · iexact H0
    iexact H1
  iapply hC; iexact HC

/-! ## The sides of the launch -/

theorem start_intro (c : Dev nD) :
    iprop(Pipeline.unscopedRestP Pipeline.Prefetch.none cfg0.spec c (fun b => m ((c : Thread nD τ).loc b)) ∗ levAts L lv
        ∗ Pipeline.launchCred (fun d => rem d 0) c ∗ prngReg c (ρ c) ∗ G' m ρ c)
      ⊢ |={Set.univ}=> iprop(start m ρ c ∗ emp) := by
  iintro ⟨-, HL, Hc, -, HG⟩
  ihave Hc := (creds (F := F) c) $$ Hc
  icases Hc with ⟨HB, HC⟩
  imodintro
  unfold start G'
  isplitl
  · isplitl [HG]; · iexact HG
    isplitl [HB]; · iexact HB
    isplitl [HC]; · iexact HC
    iexact HL
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scratch; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  exact .rfl

theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), .dma ((cfg0.win w).sem s)) () = 0 := by
      show (if 5 ≤ ((cfg0.win w).sem s).val ∧ roleOf ((cfg0.win w).sem s) = true then _ else 0) = 0
      exact if_neg fun h => absurd h.1 (by fin_cases w <;> fin_cases s <;> decide)
    rcases t with ⟨_ | _, ht⟩
    · exact mayWait_zero c _ h 0
    · have := mayWait_zero (F := F) c _ h 32
      rw [rem_end] at this
      exact this

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- THE RUN: from any memory with all counters at zero, every fair execution on the sixteen devices ends, every array as
    the pipeline leaves it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => rem c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Ring.Result.lean ====
/-
What the run leaves in the arrays: the result array holds the output's contents, the argument arrays what they held.
-/
module

public import proofs.«01_k».proof.Proof.Ring.Launch
public import Idealize.ShloMosaic.Lib.Pipeline.Value

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- At the one point every window's block is its whole array. -/
theorem blk_read0 (t : Fin cfg0.N) (f : main_arg0.ty.Contents (Elt F)) : (win0_0.blk t).view.read (Elt F) f = f := by
  have hz : (fun a => win0_0.index t a * main_arg0.ty.shape.size a) = fun _ => 0 := by rw [fin_N0 t]; exact funext fun a => by fin_cases a <;> decide
  exact Memref.read_access_unit_zero (Elt F) main_arg0 hz (fun a => by rw [congrFun hz a]; simp) f
theorem blk_read1 (t : Fin cfg0.N) (f : main_arg1.ty.Contents (Elt F)) : (win0_1.blk t).view.read (Elt F) f = f := by
  have hz : (fun a => win0_1.index t a * main_arg1.ty.shape.size a) = fun _ => 0 := by rw [fin_N0 t]; exact funext fun a => by fin_cases a <;> decide
  exact Memref.read_access_unit_zero (Elt F) main_arg1 hz (fun a => by rw [congrFun hz a]; simp) f
theorem blk_read2 (t : Fin cfg0.N) (f : main_arg2.ty.Contents (Elt F)) : (win0_2.blk t).view.read (Elt F) f = f := by
  have hz : (fun a => win0_2.index t a * main_arg2.ty.shape.size a) = fun _ => 0 := by rw [fin_N0 t]; exact funext fun a => by fin_cases a <;> decide
  exact Memref.read_access_unit_zero (Elt F) main_arg2 hz (fun a => by rw [congrFun hz a]; simp) f
theorem blk_read3 (t : Fin cfg0.N) (f : main_arg3.ty.Contents (Elt F)) : (win0_3.blk t).view.read (Elt F) f = f := by
  have hz : (fun a => win0_3.index t a * main_arg3.ty.shape.size a) = fun _ => 0 := by rw [fin_N0 t]; exact funext fun a => by fin_cases a <;> decide
  exact Memref.read_access_unit_zero (Elt F) main_arg3 hz (fun a => by rw [congrFun hz a]; simp) f
theorem blk_read4 (t : Fin cfg0.N) (f : main_v1.ty.Contents (Elt F)) : (win0_4.blk t).view.read (Elt F) f = f := by
  have hz : (fun a => win0_4.index t a * main_v1.ty.shape.size a) = fun _ => 0 := by rw [fin_N0 t]; exact funext fun a => by fin_cases a <;> decide
  exact Memref.read_access_unit_zero (Elt F) main_v1 hz (fun a => by rw [congrFun hz a]; simp) f

/-- So what is staged is the argument arrays themselves. -/
theorem xstg_eq (c : Dev nD) : xstg m ρ c = m ((c : Thread nD τ).loc main_arg0) := blk_read0 _ _
theorem wstg_eq (c : Dev nD) : wstg m ρ c = m ((c : Thread nD τ).loc main_arg1) := blk_read1 _ _
theorem sxstg_eq (c : Dev nD) : sxstg m ρ c = m ((c : Thread nD τ).loc main_arg2) := blk_read2 _ _
theorem swstg_eq (c : Dev nD) : swstg m ρ c = m ((c : Thread nD τ).loc main_arg3) := blk_read3 _ _

/-- The result array ends at the output's contents. -/
theorem final_out (c : Dev nD) : finalA m ρ c (4 : Fin 5) = outT m ρ c := by
  have h := (dats m ρ 0 c).read_blk_arrAt_eq_flushed 4 (fun t t' _ _ hne => absurd ((fin_N0 t).trans (fin_N0 t').symm) hne) cfg0.N p₀ p₀.isLt (flush0_4 p₀)
  exact (blk_read4 p₀ _).symm.trans h

/-- THE RUN, the five arrays named. -/
theorem run_named : θ_run defs (onTc (τ := τ) (main (F := F))) (s₀ m ρ) (fun r => (∀ c : Dev nD,
      r.2.mem ((c : Thread nD τ).loc main_v1) = outT m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c 4).trans (final_out m ρ c),
    (h.1 c 0).trans ((dats m ρ 0 c).arrAt_in 0 rfl _), (h.1 c 1).trans ((dats m ρ 0 c).arrAt_in 1 rfl _),
    (h.1 c 2).trans ((dats m ρ 0 c).arrAt_in 2 rfl _), (h.1 c 3).trans ((dats m ρ 0 c).arrAt_in 3 rfl _)⟩, h.2⟩) (run_main m ρ)

end Cert.Ring

end
-- ==== Proof.Ring.Reference.lean ====
/-
The reference's result: the product of the whole arrays, times the two scales' product.
-/
module

public import proofs.«01_k».proof.Proof.Gen.ReferenceIdeal.Value

@[expose] public section

set_option maxRecDepth 16384

noncomputable section

namespace Cert.RingRef

open Cert.ReferenceIdeal Cert.ReferenceIdeal.Gen Cert.ReferenceIdeal.Value Idealize.ShloMosaic Idealize.ShloMosaic.TcCoe Idealize.SL.Sem

variable {F : FTy → Type} [FloatOps F]

/-- The place of a one-word array. -/
def place : S1.Idx := fun a => match a with | ⟨0, _⟩ => (0 : Fin 1)

/-- The reference's function of its arguments. -/
def value (x : Vec F S4096x4096 .fp8e4m3) (w : Vec F S4096x8192 .fp8e4m3) (sx sw : Vec F S1 .f32) : Vec F S4096x8192 .f32 :=
  k0_pay1 x w (sx place) (sw place)

theorem hz : (![0, 0] : Fin 2 → Nat) = fun _ => 0 := funext fun a => by fin_cases a <;> rfl

/-- The body's one store writes that function of the staged arrays. -/
theorem body_value (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec F S4096x4096 .fp8e4m3) (w : Vec F S4096x8192 .fp8e4m3) (sx sw : Vec F S1 .f32) :
    out0_A_4 c a0 h0 a1 h1 a2 h2 a3 h3 a4 h4 x w sx sw = value x w sx sw := by
  unfold out0_A_4
  rw [View.read_writes_eq_canon _ _ _ (cover0_A_4 c a0 h0 a1 h1 a2 h2 a3 h3 a4 h4 x w sx sw)]
  unfold kernelRun0_A
  dsimp only
  sl_unfold_words
  rw [View.canon_unit_zero hz]
  simp only [View.readAt_eq_ld, h0.read_unread, h1.read_unread, h2.read_unread, h3.read_unread, View.ld_unit_zero (S := S4096x4096) hz, View.ld_unit_zero (S := S4096x8192) hz]
  unfold value
  exact congrArg₂ (k0_pay1 x w) (congrArg sx (funext fun a => by match a with | ⟨0, _⟩ => rfl)) (congrArg sw (funext fun a => by match a with | ⟨0, _⟩ => rfl))

variable (m : (ℓ : Loc nD τ sig) → Buf (Elt F) ℓ) (ρ : Dev nD → PrngReg)

/-- At the one point every window's block is its whole array. -/
theorem blk_read0 (t : Fin cfg0.N) (f : main_arg0.ty.Contents (Elt F)) : (win0_0.blk t).view.read (Elt F) f = f := by
  have hz : (fun a => win0_0.index t a * main_arg0.ty.shape.size a) = fun _ => 0 := by rw [fin_N0 t]; exact funext fun a => by fin_cases a <;> decide
  exact Memref.read_access_unit_zero (Elt F) main_arg0 hz (fun a => by rw [congrFun hz a]; simp) f
theorem blk_read1 (t : Fin cfg0.N) (f : main_arg1.ty.Contents (Elt F)) : (win0_1.blk t).view.read (Elt F) f = f := by
  have hz : (fun a => win0_1.index t a * main_arg1.ty.shape.size a) = fun _ => 0 := by rw [fin_N0 t]; exact funext fun a => by fin_cases a <;> decide
  exact Memref.read_access_unit_zero (Elt F) main_arg1 hz (fun a => by rw [congrFun hz a]; simp) f
theorem blk_read2 (t : Fin cfg0.N) (f : main_arg2.ty.Contents (Elt F)) : (win0_2.blk t).view.read (Elt F) f = f := by
  have hz : (fun a => win0_2.index t a * main_arg2.ty.shape.size a) = fun _ => 0 := by rw [fin_N0 t]; exact funext fun a => by fin_cases a <;> decide
  exact Memref.read_access_unit_zero (Elt F) main_arg2 hz (fun a => by rw [congrFun hz a]; simp) f
theorem blk_read3 (t : Fin cfg0.N) (f : main_arg3.ty.Contents (Elt F)) : (win0_3.blk t).view.read (Elt F) f = f := by
  have hz : (fun a => win0_3.index t a * main_arg3.ty.shape.size a) = fun _ => 0 := by rw [fin_N0 t]; exact funext fun a => by fin_cases a <;> decide
  exact Memref.read_access_unit_zero (Elt F) main_arg3 hz (fun a => by rw [congrFun hz a]; simp) f
theorem blk_read4 (t : Fin cfg0.N) (f : main_v0.ty.Contents (Elt F)) : (win0_4.blk t).view.read (Elt F) f = f := by
  have hz : (fun a => win0_4.index t a * main_v0.ty.shape.size a) = fun _ => 0 := by rw [fin_N0 t]; exact funext fun a => by fin_cases a <;> decide
  exact Memref.read_access_unit_zero (Elt F) main_v0 hz (fun a => by rw [congrFun hz a]; simp) f

/-- The reference's result on its argument arrays. -/
def result (c : Dev nD) : main_v0.ty.Contents (Elt F) :=
  value (m ((c : Thread nD τ).loc main_arg0)) (m ((c : Thread nD τ).loc main_arg1)) (m ((c : Thread nD τ).loc main_arg2)) (m ((c : Thread nD τ).loc main_arg3))

/-- The result array ends at it. -/
theorem final_out (c : Dev nD) : (dats m 0 c).arrAt 4 cfg0.N = result m c := by
  have h := blocks4 m c t0_0 (flush0_4 t0_0)
  rw [flushed4_A, body_value] at h
  have e0 : iblk m c 0 t0_0 = m ((c : Thread nD τ).loc main_arg0) := (blk_read0 t0_0 _).trans (V_main_arg0 m c)
  have e1 : iblk m c 1 t0_0 = m ((c : Thread nD τ).loc main_arg1) := (blk_read1 t0_0 _).trans (V_main_arg1 m c)
  have e2 : iblk m c 2 t0_0 = m ((c : Thread nD τ).loc main_arg2) := (blk_read2 t0_0 _).trans (V_main_arg2 m c)
  have e3 : iblk m c 3 t0_0 = m ((c : Thread nD τ).loc main_arg3) := (blk_read3 t0_0 _).trans (V_main_arg3 m c)
  rw [e0, e1, e2, e3] at h
  exact (blk_read4 t0_0 _).symm.trans h

end Cert.RingRef

end
-- ==== Proof.Ring.Equation.lean ====
/-
The equation over the extended reals: what a device's result holds is its block of columns of the reference's result.
-/
module

public import proofs.«01_k».proof.Proof.Ring.Result
public import proofs.«01_k».proof.Proof.Ring.Reference
public import Idealize.ShloMosaic.Lib.MatmulPlain
public import Idealize.ShloMosaic.Lib.ValueIdx
public import Idealize.ShloMosaic.Lib.Layout

@[expose] public section

set_option maxRecDepth 16384

noncomputable section

namespace Cert.RingValue

open Idealize.ShloMosaic Idealize.ShloMosaic.TcCoe Idealize.ShloMosaic.ValueIdx
open Cert.Ring (at2 idx2_ext)

/-- A product of two matrices, times a scalar, at an element: a row against a column, times the scalar. -/
theorem scaled_pair {M K N : ℕ} (x : FVec Ideal ⟨2, ![M, K]⟩ .fp8e4m3) (w : FVec Ideal ⟨2, ![K, N]⟩ .fp8e4m3) (s : EReal) (r : Fin M) (c : Fin N) :
    mulf (φ := .f32) (matmul (DotDims.plain M K N) none x w (constant ⟨2, ![M, N]⟩ .f32 0x00000000#32)) (broadcast ⟨2, ![M, N]⟩ s) (ix2 r c)
      = (∑ k : Fin K, x (ix2 r k) * w (ix2 k c)) * s := by
  have h := Ideal.matmul_plain_apply none x w (constant ⟨2, ![M, N]⟩ .f32 0x00000000#32) r c
  have z : (constant (F := Ideal) ⟨2, ![M, N]⟩ .f32 0x00000000#32 : FVec Ideal ⟨2, ![M, N]⟩ .f32) (ix2 r c) = 0 := Ideal.ofBits_zero_f32
  rw [z, zero_add] at h
  exact congrArg (fun z : EReal => z * s) h
theorem scaled_at {M K N : ℕ} (x : FVec Ideal ⟨2, ![M, K]⟩ .fp8e4m3) (w : FVec Ideal ⟨2, ![K, N]⟩ .fp8e4m3) (s : EReal) (i : (⟨2, ![M, N]⟩ : Shape).Idx) :
    mulf (φ := .f32) (matmul (DotDims.plain M K N) none x w (constant ⟨2, ![M, N]⟩ .f32 0x00000000#32)) (broadcast ⟨2, ![M, N]⟩ s) i
      = (∑ k : Fin K, x (ix2 (i 0) k) * w (ix2 k (i 1))) * s :=
  (congrArg _ (eq_ix2 i)).trans (scaled_pair x w s (i 0) (i 1))

/-- The reference at an element. -/
theorem ref_at (x : Vec Ideal ReferenceIdeal.S4096x4096 .fp8e4m3) (w : Vec Ideal ReferenceIdeal.S4096x8192 .fp8e4m3) (sx sw : Vec Ideal ReferenceIdeal.S1 .f32)
    (i : ReferenceIdeal.S4096x8192.Idx) :
    RingRef.value x w sx sw i = (∑ k : Fin 4096, (x (ix2 (i 0) k) : EReal) * w (ix2 k (i 1))) * ((sx RingRef.place : EReal) * sw RingRef.place) :=
  scaled_at (M := 4096) (K := 4096) (N := 8192) x w _ i

open Cert.KernelIdeal Cert.KernelIdeal.Gen Cert.Ring

/-- A half of a block of rows, at an element. -/
theorem half_at (b : Bool) (x : Vec Ideal S256x4096 .fp8e4m3) (y : S128x4096.Idx) :
    half b x y = x (at2 (cond b 128 0 + (y 0).val) (y 1).val (by have : (y 0).val < 128 := (y 0).isLt; cases b <;> simp only [cond] <;> omega) (y 1).isLt) := by
  cases b
  · show k0_pay3 x y = _
    unfold k0_pay3 k0_pay2
    rw [shapeCast_self, shapeCast_self]
    exact extractStridedSlice_apply _ _ _ _ _ fun a => by
      fin_cases a
      · rfl
      · exact (Nat.zero_add _).symm
  · show k0_pay4 x y = _
    unfold k0_pay4 k0_pay2
    rw [shapeCast_self, shapeCast_self]
    exact extractStridedSlice_apply _ _ _ _ _ fun a => by
      fin_cases a
      · rfl
      · exact (Nat.zero_add _).symm

variable (m : (ℓ : Loc nD τ sig) → Buf (Elt Ideal) ℓ) (ρ : Dev nD → PrngReg)

/-- The argument arrays of device `c`, as extended reals. -/
abbrev xs (c : Dev nD) : S256x4096.Idx → EReal := m ((c : Thread nD τ).loc main_arg0)
abbrev ws (c : Dev nD) : S4096x512.Idx → EReal := m ((c : Thread nD τ).loc main_arg1)
abbrev sxs (c : Dev nD) : S1.Idx → EReal := m ((c : Thread nD τ).loc main_arg2)
abbrev sws (c : Dev nD) : S1.Idx → EReal := m ((c : Thread nD τ).loc main_arg3)

theorem wcopy_eq (c : Dev nD) : wcopy m ρ c = m ((c : Thread nD τ).loc main_arg1) := by
  unfold wcopy k0_pay8 k0_pay7
  rw [shapeCast_self, shapeCast_self, wstg_eq]

/-- The two scales' product on device `c`. -/
theorem scale_eq (c : Dev nD) : scale m ρ c = sxs m c one1 * sws m c one1 := by
  unfold scale k0_pay1
  rw [sxstg_eq, swstg_eq]
  rfl

/-- The device whose rows an output row comes from, and the row there. -/
def rowDev (i : S4096x512.Idx) : Dev nD := ⟨(i 0).val / 256, by have : (i 0).val < 4096 := (i 0).isLt; show _ < 16; omega⟩
def rowIn (i : S4096x512.Idx) : Fin 256 := ⟨(i 0).val % 256, Nat.mod_lt _ (by decide)⟩

/-- THE OUTPUT at an element: a row of some device's rows against a column of the own columns, times the scales. -/
theorem out_at (c : Dev nD) (i : S4096x512.Idx) :
    outT m ρ c i = (∑ k : Fin 4096, xs m (rowDev i) (ix2 (rowIn i) k) * ws m c (ix2 k (i 1))) * (sxs m c one1 * sws m c one1) := by
  unfold outT
  split
  · next h =>
    have hc : c = rowDev i := Fin.ext h.symm
    unfold ownProd k0_pay2
    rw [shapeCast_self, xstg_eq, wcopy_eq, scale_eq]
    refine (scaled_at (M := 256) (K := 4096) (N := 512) _ _ _ _).trans ?_
    rw [← hc]
    rfl
  · rw [xstg_eq, wcopy_eq, scale_eq]
    refine (scaled_at (M := 128) (K := 4096) (N := 512) _ _ _ _).trans ?_
    refine congrArg (fun z : EReal => z * _) (Finset.sum_congr rfl fun k _ => ?_)
    refine congrArg (fun z : EReal => z * _) ?_
    rw [half_at]
    refine congrArg (m ((rowDev i : Thread nD τ).loc main_arg0)) (idx2_ext ?_ rfl)
    show cond (decide ((i 0).val / 128 % 2 = 1)) 128 0 + (i 0).val % 128 = (i 0).val % 256
    by_cases h : (i 0).val / 128 % 2 = 1
    · rw [decide_eq_true h]; simp only [cond]; omega
    · rw [decide_eq_false h]; simp only [cond]; omega

/-- THE EQUATION: from a device's blocks of the whole arrays, its result is its block of the whole result. -/
theorem out_block (x : Vec Ideal ReferenceIdeal.S4096x4096 .fp8e4m3) (w : Vec Ideal ReferenceIdeal.S4096x8192 .fp8e4m3) (sx sw : Vec Ideal ReferenceIdeal.S1 .f32)
    (hx : ∀ c : Dev nD, m ((c : Thread nD τ).loc main_arg0) = Layout.block ⟨2, ![256, 4096]⟩ ⟨2, ![4096, 4096]⟩ 0 16 c x)
    (hw : ∀ c : Dev nD, m ((c : Thread nD τ).loc main_arg1) = Layout.block ⟨2, ![4096, 512]⟩ ⟨2, ![4096, 8192]⟩ 1 16 c w)
    (hsx : ∀ c : Dev nD, m ((c : Thread nD τ).loc main_arg2) = sx) (hsw : ∀ c : Dev nD, m ((c : Thread nD τ).loc main_arg3) = sw) (c : Dev nD) :
    outT m ρ c = Layout.block ⟨2, ![4096, 512]⟩ ⟨2, ![4096, 8192]⟩ 1 16 c (RingRef.value x w sx sw) := by
  funext i
  refine (out_at m ρ c i).trans (Eq.trans ?_ (ref_at x w sx sw _).symm)
  refine congrArg₂ (fun a b : EReal => a * b) (Finset.sum_congr rfl fun k _ => congrArg₂ (fun a b : EReal => a * b) ?_ ?_) (congrArg₂ (fun a b : EReal => a * b) ?_ ?_)
  · refine (congrFun (hx (rowDev i)) _).trans (congrArg x (idx2_ext ?_ rfl))
    show (i 0).val / 256 * 256 + (i 0).val % 256 = (i 0).val
    omega
  · exact (congrFun (hw c) _).trans (congrArg w (idx2_ext rfl rfl))
  · exact (congrFun (hsx c) _).trans (congrArg sx (funext fun a => by match a with | ⟨0, _⟩ => exact Subsingleton.elim (α := Fin 1) _ _))
  · exact (congrFun (hsw c) _).trans (congrArg sw (funext fun a => by match a with | ⟨0, _⟩ => exact Subsingleton.elim (α := Fin 1) _ _))

end Cert.RingValue

end
-- ==== Proof.lean ====
/-
The five claims: the kernel frames at bit values and at extended reals, the reference's frame, the idealization (nothing
is rewritten), and the equation of the kernel's and the reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ring.Equation
public import Idealize.ShloMosaic.Adequacy
public import Idealize.ShloMosaic.Init

@[expose] public section

noncomputable section

namespace Cert.Proof

open Idealize.ShloMosaic Idealize.SL.Sem Cert.Kernel

/-- At bit values the kernel's body and its idealization's are one function: nothing was rewritten. -/
theorem same_body : @Cert.Kernel.cc0_body Bits _ Cert.Kernel.Gen.facts = @Cert.KernelIdeal.cc0_body Bits _ Cert.KernelIdeal.Gen.facts := rfl

/-- So the two tables of bodies agree at their one label, -/
theorem same_bodies : @Cert.Kernel.defs₀ Bits _ Cert.Kernel.Gen.facts = @Cert.KernelIdeal.defs₀ Bits _ Cert.KernelIdeal.Gen.facts := by
  refine congrArg Defs.onTc (funext fun l => ?_)
  match l with
  | 0 => exact funext fun (_, _) => rfl

/-- and the two programs' tables agree, -/
theorem same_defs : @Cert.Kernel.defs Bits _ Cert.Kernel.Gen.facts = @Cert.KernelIdeal.defs Bits _ Cert.KernelIdeal.Gen.facts :=
  congrArg (Pipeline.defs Cert.KernelIdeal.pcfgs) same_bodies

/-- and what every run of the one ends in, every run of the other ends in. -/
theorem same_run (s) (Q) : θ_run (Cert.Kernel.defs (F := Bits)) (onTc Cert.Kernel.main) s Q =
    θ_run (Cert.KernelIdeal.defs (F := Bits)) (onTc Cert.KernelIdeal.main) s Q :=
  congrArg (fun D => θ_run D (onTc (Cert.KernelIdeal.main (F := Bits))) s Q) same_defs

/-- The kernel on bit values ends, its arguments as they were and its counters at zero: the run holds at any float values. -/
theorem frame_kernel : Cert.quiescent_Kernel := fun m ρ _ => by
  have h := (θ_run Cert.KernelIdeal.defs _ _).mono
    (Q' := fun r => (∀ c : Dev nD, r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) ∧ r.2.sem = fun _ => 0)
    (fun _ h => ⟨fun c => (h.1 c).2, h.2⟩) (Cert.Ring.run_named (F := Bits) m ρ)
  exact (same_run _ _).mpr h

/-- So does the kernel on extended reals, -/
theorem frame_ideal : Cert.quiescent_KernelIdeal := fun m ρ _ =>
  (θ_run Cert.KernelIdeal.defs _ _).mono (fun _ h => ⟨fun c => (h.1 c).2, h.2⟩) (Cert.Ring.run_named (F := Ideal) m ρ)

/-- and the reference. -/
theorem frame_reference : Cert.quiescent_ReferenceIdeal := fun m ρ _ => Cert.ReferenceIdeal.Gen.frame m ρ

/-- From blocks of the same whole arrays, every device's result is its block of the reference's result. -/
theorem equal : Cert.algebraic_KernelIdeal_ReferenceIdeal := fun m ρ m' ρ' _ h =>
  ⟨Cert.RingRef.result m' 0,
    (θ_run Cert.KernelIdeal.defs _ _).mono (fun _ hr c =>
      ⟨((hr.1 c).1).trans (Cert.RingValue.out_block m ρ _ _ _ _ (fun c => (h c).1) (fun c => (h c).2.1) (fun c => (h c).2.2.1) (fun c => (h c).2.2.2) c), (hr.1 c).2⟩)
      (Cert.Ring.run_named (F := Ideal) m ρ),
    (θ_run Cert.ReferenceIdeal.defs _ _).mono (fun _ hr => ⟨((hr 0).1).trans (Cert.RingRef.final_out m' 0), (hr 0).2⟩)
      (Cert.ReferenceIdeal.Value.run_blocks m' ρ')⟩

/-- All five claims. -/
theorem claim : Cert.Claim := ⟨Cert.Kernel.Gen.facts, Cert.KernelIdeal.Gen.facts, Cert.ReferenceIdeal.Gen.facts,
  frame_kernel, frame_ideal, frame_reference, trivial, equal⟩

end Cert.Proof

end
